-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ExactIdeal (m : (ℓ : Loc Cert.ExactIdeal.nD Cert.ExactIdeal.τ Cert.ExactIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ExactIdeal [hExactIdeal : Cert.ExactIdeal.Facts] : Prop :=
  ∀ (m : (ℓ : Loc Cert.ExactIdeal.nD Cert.ExactIdeal.τ Cert.ExactIdeal.sig) → Buf (Elt Ideal) ℓ) (g : Dev Cert.ExactIdeal.nD → PrngReg), Pre_ExactIdeal m →
    θ_run (Cert.ExactIdeal.defs (F := Ideal)) (onTc (τ := Cert.ExactIdeal.τ) (Cert.ExactIdeal.main (F := Ideal))) ⟨m, fun _ => 0, g⟩ (fun r => (∀ c : Dev Cert.ExactIdeal.nD,
      r.2.mem ((c.tc : Thread Cert.ExactIdeal.nD Cert.ExactIdeal.τ).loc Cert.ExactIdeal.main_arg0) = m ((c.tc : Thread Cert.ExactIdeal.nD Cert.ExactIdeal.τ).loc Cert.ExactIdeal.main_arg0)
      ∧ r.2.mem ((c.tc : Thread Cert.ExactIdeal.nD Cert.ExactIdeal.τ).loc Cert.ExactIdeal.main_arg1) = m ((c.tc : Thread Cert.ExactIdeal.nD Cert.ExactIdeal.τ).loc Cert.ExactIdeal.main_arg1)
      ∧ r.2.mem ((c.tc : Thread Cert.ExactIdeal.nD Cert.ExactIdeal.τ).loc Cert.ExactIdeal.main_arg2) = m ((c.tc : Thread Cert.ExactIdeal.nD Cert.ExactIdeal.τ).loc Cert.ExactIdeal.main_arg2)
      ∧ r.2.mem ((c.tc : Thread Cert.ExactIdeal.nD Cert.ExactIdeal.τ).loc Cert.ExactIdeal.main_arg3) = m ((c.tc : Thread Cert.ExactIdeal.nD Cert.ExactIdeal.τ).loc Cert.ExactIdeal.main_arg3)
      ∧ r.2.mem ((c.tc : Thread Cert.ExactIdeal.nD Cert.ExactIdeal.τ).loc Cert.ExactIdeal.main_arg4) = m ((c.tc : Thread Cert.ExactIdeal.nD Cert.ExactIdeal.τ).loc Cert.ExactIdeal.main_arg4)
      ∧ r.2.mem ((c.tc : Thread Cert.ExactIdeal.nD Cert.ExactIdeal.τ).loc Cert.ExactIdeal.main_arg5) = m ((c.tc : Thread Cert.ExactIdeal.nD Cert.ExactIdeal.τ).loc Cert.ExactIdeal.main_arg5)
      ∧ r.2.mem ((c.tc : Thread Cert.ExactIdeal.nD Cert.ExactIdeal.τ).loc Cert.ExactIdeal.main_arg6) = m ((c.tc : Thread Cert.ExactIdeal.nD Cert.ExactIdeal.τ).loc Cert.ExactIdeal.main_arg6)
      ∧ r.2.mem ((c.tc : Thread Cert.ExactIdeal.nD Cert.ExactIdeal.τ).loc Cert.ExactIdeal.main_arg7) = m ((c.tc : Thread Cert.ExactIdeal.nD Cert.ExactIdeal.τ).loc Cert.ExactIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hExactIdeal : Cert.ExactIdeal.Facts),
    quiescent_Kernel (hKernel := hKernel)
    ∧ quiescent_KernelIdeal (hKernelIdeal := hKernelIdeal)
    ∧ quiescent_ReferenceIdeal (hReferenceIdeal := hReferenceIdeal)
    ∧ quiescent_ExactIdeal (hExactIdeal := hExactIdeal)
    ∧ preserves_Kernel_KernelIdeal
    ∧ algebraic_KernelIdeal_ReferenceIdeal (hKernelIdeal := hKernelIdeal) (hReferenceIdeal := hReferenceIdeal)
-- ==== Kernel.lean ====
abbrev S4x32x128 : Shape := ⟨3, ![4, 32, 128]⟩
abbrev S100000x128 : Shape := ⟨2, ![100000, 128]⟩
abbrev S128x128 : Shape := ⟨2, ![128, 128]⟩
abbrev S128 : Shape := ⟨1, ![128]⟩
abbrev S1x128 : Shape := ⟨2, ![1, 128]⟩
abbrev S10000x128 : Shape := ⟨2, ![10000, 128]⟩
abbrev S256x128 : Shape := ⟨2, ![256, 128]⟩
abbrev S8x128 : Shape := ⟨2, ![8, 128]⟩
abbrev S128x1 : Shape := ⟨2, ![128, 1]⟩
abbrev S1x10000 : Shape := ⟨2, ![1, 10000]⟩
abbrev S256x10000 : Shape := ⟨2, ![256, 10000]⟩
abbrev S128x10000 : Shape := ⟨2, ![128, 10000]⟩
abbrev S8x10000 : Shape := ⟨2, ![8, 10000]⟩
abbrev S4x10000 : Shape := ⟨2, ![4, 10000]⟩
abbrev S4x1x10000 : Shape := ⟨3, ![4, 1, 10000]⟩
abbrev S4x32x10000 : Shape := ⟨3, ![4, 32, 10000]⟩
abbrev S8 : Shape := ⟨1, ![8]⟩
abbrev S8x1 : Shape := ⟨2, ![8, 1]⟩

abbrev nBuf : Space → Nat
  | .hbm => 14
  | .vmem => 14
  | .smem => 0
  | _ => 0

abbrev bufTy : (tb : Table) → Fin (tcTables nBuf tb) → BufTy
  | .hbm, ⟨0, _⟩ => ⟨S4x32x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S1x128, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S128x128, .f32⟩
  | .local _ .vmem, ⟨0, _⟩ => ⟨S128x128, .f32⟩
  | .local _ .vmem, ⟨1, _⟩ => ⟨S10000x128, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S128x128, .f32⟩
  | .local _ .vmem, ⟨10, _⟩ => ⟨S256x128, .bf16⟩
  | .local _ .vmem, ⟨11, _⟩ => ⟨S128x128, .f32⟩
  | .local _ .vmem, ⟨12, _⟩ => ⟨S128x128, .f32⟩
  | .local _ .vmem, ⟨13, _⟩ => ⟨S8x128, .f32⟩
  | _, _ => ⟨S4x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v95 : BitVec 1 := Scalar.cmpi .eq arg0 c9_i32
  let v96 : BitVec 32 := Scalar.extui v95
  let c0_i32_32 : BitVec 32 := 0#32
  let v97 : BitVec 1 := Scalar.cmpi .ne v96 c0_i32_32
  v97

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S4x32x128 : Shape := ⟨3, ![4, 32, 128]⟩
abbrev S100000x128 : Shape := ⟨2, ![100000, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S4x32 : Shape := ⟨2, ![4, 32]⟩
abbrev S4x32x1 : Shape := ⟨3, ![4, 32, 1]⟩
abbrev S100000 : Shape := ⟨1, ![100000]⟩
abbrev S128x100000 : Shape := ⟨2, ![128, 100000]⟩
abbrev S4x32x100000 : Shape := ⟨3, ![4, 32, 100000]⟩
abbrev S1x1x100000 : Shape := ⟨3, ![1, 1, 100000]⟩
abbrev S4x100000 : Shape := ⟨2, ![4, 100000]⟩
abbrev S1x100000 : Shape := ⟨2, ![1, 100000]⟩
abbrev S4x1x100000 : Shape := ⟨3, ![4, 1, 100000]⟩
abbrev S4 : Shape := ⟨1, ![4]⟩
abbrev S4x1x1 : Shape := ⟨3, ![4, 1, 1]⟩

abbrev nBuf : Space → Nat
  | .hbm => 128
  | .vmem => 0
  | .smem => 0
  | _ => 0

abbrev bufTy : (tb : Table) → Fin (tcTables nBuf tb) → BufTy
  | .hbm, ⟨0, _⟩ => ⟨S4x32x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S4x32x128, .f32⟩
  | .hbm, ⟨10, _⟩ => ⟨S1x1x128, .f32⟩
  | .hbm, ⟨11, _⟩ => ⟨S4x32x128, .f32⟩
  | .hbm, ⟨12, _⟩ => ⟨S4x32x128, .f32⟩
  | .hbm, ⟨13, _⟩ => ⟨S_, .f32⟩
  | .hbm, ⟨14, _⟩ => ⟨S4x32, .f32⟩
  | .hbm, ⟨15, _⟩ => ⟨S4x32x1, .f32⟩
  | .hbm, ⟨16, _⟩ => ⟨S_, .f32⟩
  | .hbm, ⟨17, _⟩ => ⟨S4x32x1, .f32⟩
  | .hbm, ⟨18, _⟩ => ⟨S4x32x1, .f32⟩
  | .hbm, ⟨19, _⟩ => ⟨S4x32x128, .f32⟩
  | .hbm, ⟨20, _⟩ => ⟨S4x32x128, .f32⟩
  | .hbm, ⟨21, _⟩ => ⟨S4x32x128, .f32⟩
  | .hbm, ⟨22, _⟩ => ⟨S_, .f32⟩
  | .hbm, ⟨23, _⟩ => ⟨S4x32, .f32⟩
  | .hbm, ⟨24, _⟩ => ⟨S4x32x1, .f32⟩
  | .hbm, ⟨25, _⟩ => ⟨S_, .f32⟩
  | .hbm, ⟨26, _⟩ => ⟨S4x32x1, .f32⟩
  | .hbm, ⟨27, _⟩ => ⟨S4x32x1, .f32⟩
  | .hbm, ⟨28, _⟩ => ⟨S4x32x128, .f32⟩
  | .hbm, ⟨29, _⟩ => ⟨S4x32x128, .f32⟩
  | .hbm, ⟨30, _⟩ => ⟨S_, .f32⟩
  | .hbm, ⟨31, _⟩ => ⟨S4x32x1, .f32⟩
  | .hbm, ⟨32, _⟩ => ⟨S4x32x1, .f32⟩
  | .hbm, ⟨33, _⟩ => ⟨S4x32x1, .f32⟩
  | .hbm, ⟨34, _⟩ => ⟨S4x32x128, .f32⟩
  | .hbm, ⟨35, _⟩ => ⟨S4x32x128, .f32⟩
  | .hbm, ⟨36, _⟩ => ⟨S1x1x128, .f32⟩
  | .hbm, ⟨37, _⟩ => ⟨S4x32x128, .f32⟩
  | .hbm, ⟨38, _⟩ => ⟨S4x32x128, .f32⟩
  | .hbm, ⟨39, _⟩ => ⟨S1x1x128, .f32⟩
  | .hbm, ⟨40, _⟩ => ⟨S4x32x128, .f32⟩
  | .hbm, ⟨41, _⟩ => ⟨S4x32x128, .f32⟩
  | .hbm, ⟨42, _⟩ => ⟨S_, .f32⟩
  | .hbm, ⟨43, _⟩ => ⟨S4x32x128, .f32⟩
  | .hbm, ⟨44, _⟩ => ⟨S4x32x128, .f32⟩
  | .hbm, ⟨45, _⟩ => ⟨S128x128, .f32⟩
  | .hbm, ⟨46, _⟩ => ⟨S4x32x128, .f32⟩
  | .hbm, ⟨47, _⟩ => ⟨S1x1x128, .f32⟩
  | .hbm, ⟨48, _⟩ => ⟨S4x32x128, .f32⟩
  | .hbm, ⟨49, _⟩ => ⟨S4x32x128, .f32⟩
  | .hbm, ⟨50, _⟩ => ⟨S4x32x128, .f32⟩
  | .hbm, ⟨51, _⟩ => ⟨S_, .f32⟩
  | .hbm, ⟨52, _⟩ => ⟨S4x32, .f32⟩
  | .hbm, ⟨53, _⟩ => ⟨S4x32x1, .f32⟩
  | .hbm, ⟨54, _⟩ => ⟨S4x32x1, .f32⟩
  | .hbm, ⟨55, _⟩ => ⟨S100000x128, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S128x100000, .f32⟩
  | .hbm, ⟨60, _⟩ => ⟨S4x32x100000, .f32⟩
  | .hbm, ⟨61, _⟩ => ⟨S_, .f32⟩
  | .hbm, ⟨62, _⟩ => ⟨S4x32x1, .f32⟩
  | .hbm, ⟨63, _⟩ => ⟨S4x32x1, .f32⟩
  | .hbm, ⟨64, _⟩ => ⟨S1x1x100000, .f32⟩
  | .hbm, ⟨65, _⟩ => ⟨S_, .f32⟩
  | .hbm, ⟨66, _⟩ => ⟨S1x1x100000, .f32⟩
  | .hbm, ⟨67, _⟩ => ⟨S1x1x100000, .f32⟩
  | .hbm, ⟨68, _⟩ => ⟨S4x32x100000, .f32⟩
  | .hbm, ⟨69, _⟩ => ⟨S4x32x100000, .f32⟩
  | .hbm, ⟨70, _⟩ => ⟨S4x32x100000, .f32⟩
  | .hbm, ⟨71, _⟩ => ⟨S4x32x100000, .f32⟩
  | .hbm, ⟨72, _⟩ => ⟨S_, .f32⟩
  | .hbm, ⟨73, _⟩ => ⟨S4x32x100000, .f32⟩
  | .hbm, ⟨74, _⟩ => ⟨S4x32x100000, .i1⟩
  | .hbm, ⟨75, _⟩ => ⟨S_, .f32⟩
  | .hbm, ⟨76, _⟩ => ⟨S_, .f32⟩
  | .hbm, ⟨77, _⟩ => ⟨S4x32x100000, .f32⟩
  | .hbm, ⟨78, _⟩ => ⟨S4x32x100000, .f32⟩
  | .hbm, ⟨79, _⟩ => ⟨S_, .f32⟩
  | .hbm, ⟨80, _⟩ => ⟨S4x100000, .f32⟩
  | .hbm, ⟨81, _⟩ => ⟨S100000x128, .f32⟩
  | .hbm, ⟨82, _⟩ => ⟨S_, .f32⟩
  | .hbm, ⟨83, _⟩ => ⟨S100000, .f32⟩
  | .hbm, ⟨84, _⟩ => ⟨S_, .f32⟩
  | .hbm, ⟨85, _⟩ => ⟨S4x100000, .f32⟩
  | .hbm, ⟨86, _⟩ => ⟨S4x100000, .i1⟩
  | .hbm, ⟨87, _⟩ => ⟨S_, .f32⟩
  | .hbm, ⟨88, _⟩ => ⟨S100000, .f32⟩
  | .hbm, ⟨89, _⟩ => ⟨S100000, .i1⟩
  | .hbm, ⟨90, _⟩ => ⟨S1x100000, .i1⟩
  | .hbm, ⟨91, _⟩ => ⟨S4x100000, .i1⟩
  | .hbm, ⟨92, _⟩ => ⟨S4x100000, .i1⟩
  | .hbm, ⟨93, _⟩ => ⟨S_, .f32⟩
  | .hbm, ⟨94, _⟩ => ⟨S_, .f32⟩
  | .hbm, ⟨95, _⟩ => ⟨S4x100000, .f32⟩
  | .hbm, ⟨96, _⟩ => ⟨S4x100000, .f32⟩
  | .hbm, ⟨97, _⟩ => ⟨S128x100000, .f32⟩
  | .hbm, ⟨98, _⟩ => ⟨S4x32x100000, .f32⟩
  | .hbm, ⟨99, _⟩ => ⟨S_, .f32⟩
  | .hbm, ⟨100, _⟩ => ⟨S100000, .f32⟩
  | .hbm, ⟨101, _⟩ => ⟨S100000, .f32⟩
  | .hbm, ⟨102, _⟩ => ⟨S1x1x100000, .f32⟩
  | .hbm, ⟨103, _⟩ => ⟨S4x32x100000, .f32⟩
  | .hbm, ⟨104, _⟩ => ⟨S4x32x100000, .f32⟩
  | .hbm, ⟨105, _⟩ => ⟨S4x1x100000, .f32⟩
  | .hbm, ⟨106, _⟩ => ⟨S4x32x100000, .f32⟩
  | .hbm, ⟨107, _⟩ => ⟨S4x32x100000, .f32⟩
  | .hbm, ⟨108, _⟩ => ⟨S4x32x128, .f32⟩
  | .hbm, ⟨109, _⟩ => ⟨S_, .f32⟩
  | .hbm, ⟨110, _⟩ => ⟨S4, .f32⟩
  | .hbm, ⟨111, _⟩ => ⟨S_, .f32⟩
  | .hbm, ⟨112, _⟩ => ⟨S4x32x128, .f32⟩
  | .hbm, ⟨113, _⟩ => ⟨S4x32x128, .f32⟩
  | .hbm, ⟨114, _⟩ => ⟨S_, .f32⟩
  | .hbm, ⟨115, _⟩ => ⟨S4, .f32⟩
  | .hbm, ⟨116, _⟩ => ⟨S4, .f32⟩
  | .hbm, ⟨117, _⟩ => ⟨S4x1x1, .f32⟩
  | .hbm, ⟨118, _⟩ => ⟨S4x32x128, .f32⟩
  | .hbm, ⟨119, _⟩ => ⟨S4x32x128, .f32⟩
  | .hbm, ⟨120, _⟩ => ⟨S4x32x128, .f32⟩
  | .hbm, ⟨121, _⟩ => ⟨S_, .f32⟩
  | .hbm, ⟨122, _⟩ => ⟨S4, .f32⟩
  | .hbm, ⟨123, _⟩ => ⟨S4, .i1⟩
  | .hbm, ⟨124, _⟩ => ⟨S4x1x1, .i1⟩
  | .hbm, ⟨125, _⟩ => ⟨S4x32x128, .i1⟩
  | .hbm, ⟨126, _⟩ => ⟨S4x32x128, .f32⟩
  | .hbm, ⟨127, _⟩ => ⟨S128x128, .f32⟩
  | _, _ => ⟨S4x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v35 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_v48 : Ref sig .tc := ⟨.hbm, 73, rfl⟩
abbrev main_v49 : Ref sig .tc := ⟨.hbm, 74, rfl⟩
abbrev main_cst_7 : Ref sig .tc := ⟨.hbm, 75, rfl⟩
abbrev main_call3_v0 : Ref sig .tc := ⟨.hbm, 76, rfl⟩
abbrev main_call3_v1 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_cst_11 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_call4_v0 : Ref sig .tc := ⟨.hbm, 94, rfl⟩
abbrev main_call4_v1 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_cst_16 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_17 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_call5_v0 : Ref sig .tc := ⟨.hbm, 125, rfl⟩
abbrev main_v85 : Ref sig .tc := ⟨.hbm, 126, rfl⟩
abbrev main_v86 : Ref sig .tc := ⟨.hbm, 127, rfl⟩

abbrev nD : Nat := 1
abbrev τ : Topo := Topo.v7x

variable {F : FTy → Type} [FloatOps F]
-- ==== ExactIdeal.lean ====
abbrev S4x32x128 : Shape := ⟨3, ![4, 32, 128]⟩
abbrev S100000x128 : Shape := ⟨2, ![100000, 128]⟩
abbrev S128x128 : Shape := ⟨2, ![128, 128]⟩
abbrev S128 : Shape := ⟨1, ![128]⟩
abbrev S1x1x128 : Shape := ⟨3, ![1, 1, 128]⟩
abbrev S_ : Shape := ⟨0, ![]⟩
abbrev S4x32 : Shape := ⟨2, ![4, 32]⟩
abbrev S4x32x1 : Shape := ⟨3, ![4, 32, 1]⟩
abbrev S100000 : Shape := ⟨1, ![100000]⟩
abbrev S128x100000 : Shape := ⟨2, ![128, 100000]⟩
abbrev S4x32x100000 : Shape := ⟨3, ![4, 32, 100000]⟩
abbrev S1x1x100000 : Shape := ⟨3, ![1, 1, 100000]⟩
abbrev S4x100000 : Shape := ⟨2, ![4, 100000]⟩
abbrev S1x100000 : Shape := ⟨2, ![1, 100000]⟩
abbrev S4x1x100000 : Shape := ⟨3, ![4, 1, 100000]⟩
abbrev S4 : Shape := ⟨1, ![4]⟩
abbrev S4x1x1 : Shape := ⟨3, ![4, 1, 1]⟩

abbrev nBuf : Space → Nat
  | .hbm => 125
  | .vmem => 0
  | .smem => 0
  | _ => 0

abbrev bufTy : (tb : Table) → Fin (tcTables nBuf tb) → BufTy
  | .hbm, ⟨0, _⟩ => ⟨S4x32x128, .f32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S4x32x128, .f32⟩
  | .hbm, ⟨10, _⟩ => ⟨S1x1x128, .f32⟩
  | .hbm, ⟨11, _⟩ => ⟨S4x32x128, .f32⟩
  | .hbm, ⟨12, _⟩ => ⟨S4x32x128, .f32⟩
  | .hbm, ⟨13, _⟩ => ⟨S_, .f32⟩
  | .hbm, ⟨14, _⟩ => ⟨S4x32, .f32⟩
  | .hbm, ⟨15, _⟩ => ⟨S4x32x1, .f32⟩
  | .hbm, ⟨16, _⟩ => ⟨S_, .f32⟩
  | .hbm, ⟨17, _⟩ => ⟨S4x32x1, .f32⟩
  | .hbm, ⟨18, _⟩ => ⟨S4x32x1, .f32⟩
  | .hbm, ⟨19, _⟩ => ⟨S4x32x128, .f32⟩
  | .hbm, ⟨20, _⟩ => ⟨S4x32x128, .f32⟩
  | .hbm, ⟨21, _⟩ => ⟨S4x32x128, .f32⟩
  | .hbm, ⟨22, _⟩ => ⟨S_, .f32⟩
  | .hbm, ⟨23, _⟩ => ⟨S4x32, .f32⟩
  | .hbm, ⟨24, _⟩ => ⟨S4x32x1, .f32⟩
  | .hbm, ⟨25, _⟩ => ⟨S_, .f32⟩
  | .hbm, ⟨26, _⟩ => ⟨S4x32x1, .f32⟩
  | .hbm, ⟨27, _⟩ => ⟨S4x32x1, .f32⟩
  | .hbm, ⟨28, _⟩ => ⟨S4x32x128, .f32⟩
  | .hbm, ⟨29, _⟩ => ⟨S4x32x128, .f32⟩
  | .hbm, ⟨30, _⟩ => ⟨S_, .f32⟩
  | .hbm, ⟨31, _⟩ => ⟨S4x32x1, .f32⟩
  | .hbm, ⟨32, _⟩ => ⟨S4x32x1, .f32⟩
  | .hbm, ⟨33, _⟩ => ⟨S4x32x1, .f32⟩
  | .hbm, ⟨34, _⟩ => ⟨S4x32x128, .f32⟩
  | .hbm, ⟨35, _⟩ => ⟨S4x32x128, .f32⟩
  | .hbm, ⟨36, _⟩ => ⟨S1x1x128, .f32⟩
  | .hbm, ⟨37, _⟩ => ⟨S4x32x128, .f32⟩
  | .hbm, ⟨38, _⟩ => ⟨S4x32x128, .f32⟩
  | .hbm, ⟨39, _⟩ => ⟨S1x1x128, .f32⟩
  | .hbm, ⟨40, _⟩ => ⟨S4x32x128, .f32⟩
  | .hbm, ⟨41, _⟩ => ⟨S4x32x128, .f32⟩
  | .hbm, ⟨42, _⟩ => ⟨S_, .f32⟩
  | .hbm, ⟨43, _⟩ => ⟨S4x32x128, .f32⟩
  | .hbm, ⟨44, _⟩ => ⟨S4x32x128, .f32⟩
  | .hbm, ⟨45, _⟩ => ⟨S128x128, .f32⟩
  | .hbm, ⟨46, _⟩ => ⟨S4x32x128, .f32⟩
  | .hbm, ⟨47, _⟩ => ⟨S1x1x128, .f32⟩
  | .hbm, ⟨48, _⟩ => ⟨S4x32x128, .f32⟩
  | .hbm, ⟨49, _⟩ => ⟨S4x32x128, .f32⟩
  | .hbm, ⟨50, _⟩ => ⟨S4x32x128, .f32⟩
  | .hbm, ⟨51, _⟩ => ⟨S_, .f32⟩
  | .hbm, ⟨52, _⟩ => ⟨S4x32, .f32⟩
  | .hbm, ⟨53, _⟩ => ⟨S4x32x1, .f32⟩
  | .hbm, ⟨54, _⟩ => ⟨S4x32x1, .f32⟩
  | .hbm, ⟨55, _⟩ => ⟨S100000x128, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S128x100000, .f32⟩
  | .hbm, ⟨60, _⟩ => ⟨S4x32x100000, .f32⟩
  | .hbm, ⟨61, _⟩ => ⟨S1x1x100000, .f32⟩
  | .hbm, ⟨62, _⟩ => ⟨S4x32x100000, .f32⟩
  | .hbm, ⟨63, _⟩ => ⟨S4x32x100000, .f32⟩
  | .hbm, ⟨64, _⟩ => ⟨S4x32x100000, .f32⟩
  | .hbm, ⟨65, _⟩ => ⟨S_, .f32⟩
  | .hbm, ⟨66, _⟩ => ⟨S4x32x100000, .f32⟩
  | .hbm, ⟨67, _⟩ => ⟨S4x32x100000, .f32⟩
  | .hbm, ⟨68, _⟩ => ⟨S4x32x100000, .f32⟩
  | .hbm, ⟨69, _⟩ => ⟨S_, .f32⟩
  | .hbm, ⟨70, _⟩ => ⟨S4x32x100000, .f32⟩
  | .hbm, ⟨71, _⟩ => ⟨S4x32x100000, .i1⟩
  | .hbm, ⟨72, _⟩ => ⟨S_, .f32⟩
  | .hbm, ⟨73, _⟩ => ⟨S_, .f32⟩
  | .hbm, ⟨74, _⟩ => ⟨S4x32x100000, .f32⟩
  | .hbm, ⟨75, _⟩ => ⟨S4x32x100000, .f32⟩
  | .hbm, ⟨76, _⟩ => ⟨S_, .f32⟩
  | .hbm, ⟨77, _⟩ => ⟨S4x100000, .f32⟩
  | .hbm, ⟨78, _⟩ => ⟨S100000x128, .f32⟩
  | .hbm, ⟨79, _⟩ => ⟨S_, .f32⟩
  | .hbm, ⟨80, _⟩ => ⟨S100000, .f32⟩
  | .hbm, ⟨81, _⟩ => ⟨S_, .f32⟩
  | .hbm, ⟨82, _⟩ => ⟨S4x100000, .f32⟩
  | .hbm, ⟨83, _⟩ => ⟨S4x100000, .i1⟩
  | .hbm, ⟨84, _⟩ => ⟨S_, .f32⟩
  | .hbm, ⟨85, _⟩ => ⟨S100000, .f32⟩
  | .hbm, ⟨86, _⟩ => ⟨S100000, .i1⟩
  | .hbm, ⟨87, _⟩ => ⟨S1x100000, .i1⟩
  | .hbm, ⟨88, _⟩ => ⟨S4x100000, .i1⟩
  | .hbm, ⟨89, _⟩ => ⟨S4x100000, .i1⟩
  | .hbm, ⟨90, _⟩ => ⟨S_, .f32⟩
  | .hbm, ⟨91, _⟩ => ⟨S_, .f32⟩
  | .hbm, ⟨92, _⟩ => ⟨S4x100000, .f32⟩
  | .hbm, ⟨93, _⟩ => ⟨S4x100000, .f32⟩
  | .hbm, ⟨94, _⟩ => ⟨S128x100000, .f32⟩
  | .hbm, ⟨95, _⟩ => ⟨S4x32x100000, .f32⟩
  | .hbm, ⟨96, _⟩ => ⟨S_, .f32⟩
  | .hbm, ⟨97, _⟩ => ⟨S100000, .f32⟩
  | .hbm, ⟨98, _⟩ => ⟨S100000, .f32⟩
  | .hbm, ⟨99, _⟩ => ⟨S1x1x100000, .f32⟩
  | .hbm, ⟨100, _⟩ => ⟨S4x32x100000, .f32⟩
  | .hbm, ⟨101, _⟩ => ⟨S4x32x100000, .f32⟩
  | .hbm, ⟨102, _⟩ => ⟨S4x1x100000, .f32⟩
  | .hbm, ⟨103, _⟩ => ⟨S4x32x100000, .f32⟩
  | .hbm, ⟨104, _⟩ => ⟨S4x32x100000, .f32⟩
  | .hbm, ⟨105, _⟩ => ⟨S4x32x128, .f32⟩
  | .hbm, ⟨106, _⟩ => ⟨S_, .f32⟩
  | .hbm, ⟨107, _⟩ => ⟨S4, .f32⟩
  | .hbm, ⟨108, _⟩ => ⟨S_, .f32⟩
  | .hbm, ⟨109, _⟩ => ⟨S4x32x128, .f32⟩
  | .hbm, ⟨110, _⟩ => ⟨S4x32x128, .f32⟩
  | .hbm, ⟨111, _⟩ => ⟨S_, .f32⟩
  | .hbm, ⟨112, _⟩ => ⟨S4, .f32⟩
  | .hbm, ⟨113, _⟩ => ⟨S4, .f32⟩
  | .hbm, ⟨114, _⟩ => ⟨S4x1x1, .f32⟩
  | .hbm, ⟨115, _⟩ => ⟨S4x32x128, .f32⟩
  | .hbm, ⟨116, _⟩ => ⟨S4x32x128, .f32⟩
  | .hbm, ⟨117, _⟩ => ⟨S4x32x128, .f32⟩
  | .hbm, ⟨118, _⟩ => ⟨S_, .f32⟩
  | .hbm, ⟨119, _⟩ => ⟨S4, .f32⟩
  | .hbm, ⟨120, _⟩ => ⟨S4, .i1⟩
  | .hbm, ⟨121, _⟩ => ⟨S4x1x1, .i1⟩
  | .hbm, ⟨122, _⟩ => ⟨S4x32x128, .i1⟩
  | .hbm, ⟨123, _⟩ => ⟨S4x32x128, .f32⟩
  | .hbm, ⟨124, _⟩ => ⟨S128x128, .f32⟩
  | _, _ => ⟨S4x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_call0_cst : Ref sig .tc := ⟨.hbm, 42, rfl⟩
abbrev main_call0_v0 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call1_v0 : Ref sig .tc := ⟨.hbm, 50, rfl⟩
abbrev main_call1_cst : Ref sig .tc := ⟨.hbm, 51, rfl⟩
abbrev main_call1_v1 : Ref sig .tc := ⟨.hbm, 52, rfl⟩
abbrev main_call1_v2 : Ref sig .tc := ⟨.hbm, 53, rfl⟩
abbrev main_v35 : Ref sig .tc := ⟨.hbm, 54, rfl⟩
abbrev main_call2_v0 : Ref sig .tc := ⟨.hbm, 55, rfl⟩
abbrev main_call2_cst : Ref sig .tc := ⟨.hbm, 56, rfl⟩
abbrev main_call2_v1 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_4 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_5 : Ref sig .tc := ⟨.hbm, 69, rfl⟩
abbrev main_v46 : Ref sig .tc := ⟨.hbm, 70, rfl⟩
abbrev main_v47 : Ref sig .tc := ⟨.hbm, 71, rfl⟩
abbrev main_cst_6 : Ref sig .tc := ⟨.hbm, 72, rfl⟩
abbrev main_call3_v0 : Ref sig .tc := ⟨.hbm, 73, rfl⟩
abbrev main_call3_v1 : Ref sig .tc := ⟨.hbm, 74, rfl⟩
abbrev main_v48 : Ref sig .tc := ⟨.hbm, 75, rfl⟩
abbrev main_cst_7 : Ref sig .tc := ⟨.hbm, 76, rfl⟩
abbrev main_v49 : Ref sig .tc := ⟨.hbm, 77, rfl⟩
abbrev main_v50 : Ref sig .tc := ⟨.hbm, 78, rfl⟩
abbrev main_cst_8 : Ref sig .tc := ⟨.hbm, 79, rfl⟩
abbrev main_v51 : Ref sig .tc := ⟨.hbm, 80, rfl⟩
abbrev main_cst_9 : Ref sig .tc := ⟨.hbm, 81, rfl⟩
abbrev main_v52 : Ref sig .tc := ⟨.hbm, 82, rfl⟩
abbrev main_v53 : Ref sig .tc := ⟨.hbm, 83, rfl⟩
abbrev main_cst_10 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_call4_v0 : Ref sig .tc := ⟨.hbm, 91, rfl⟩
abbrev main_call4_v1 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_12 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_13 : Ref sig .tc := ⟨.hbm, 106, rfl⟩
abbrev main_v71 : Ref sig .tc := ⟨.hbm, 107, rfl⟩
abbrev main_cst_14 : Ref sig .tc := ⟨.hbm, 108, rfl⟩
abbrev main_v72 : Ref sig .tc := ⟨.hbm, 109, rfl⟩
abbrev main_v73 : Ref sig .tc := ⟨.hbm, 110, rfl⟩
abbrev main_cst_15 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_16 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_call5_v0 : Ref sig .tc := ⟨.hbm, 122, rfl⟩
abbrev main_v83 : Ref sig .tc := ⟨.hbm, 123, rfl⟩
abbrev main_v84 : Ref sig .tc := ⟨.hbm, 124, rfl⟩

abbrev nD : Nat := 1
abbrev τ : Topo := Topo.v7x

variable {F : FTy → Type} [FloatOps F]
-- ==== Proof.Cases.lean ====
/-
  The memory part of the kernel's value, read off the generated run: what each of the three kinds of grid point (the first,
  a middle one, the last) leaves in the carried buffers and in the output, as the body's own arithmetic over the input
  blocks and over what the point before left. No arithmetic is opened here.
-/
module

public import proofs.«01_k».proof.Proof.Gen.KernelIdeal.Value
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The offset of a whole-buffer load or store, as the constant zero. -/
theorem off_zero : (![0, 0] : Fin 2 → Nat) = fun _ => 0 := funext fun a => by fin_cases a <;> rfl

/-- The rows the kernel keeps: the 128 normalised rows of `x` first, the 128 rows of the raw action, as they are, below them. -/
def rowsOf (x0 : Vec F S128x128 .f32) (x2 : Vec F S128x128 .f32) (x3 x4 x5 : Vec F S1x128 .f32) (x6 : Vec F S128x128 .f32)
    (x7 : Vec F S1x128 .f32) : Vec F S256x128 .bf16 :=
  View.canon (Val := Elt F) [⟨Rect.unit (s := S256x128) ![128, 0] S128x128.size inb_S256x128_S128x128_128_0, k0_pay12 (k0_pay5 x0 x2 x3 x4 x5 x6) x7⟩,
    ⟨Rect.unit (s := S256x128) ![0, 0] S128x128.size inb_S256x128_S128x128_0_0, k0_pay11 (k0_pay4 x0)⟩]

/-- The correction after one more block of the memory. -/
def corrStep (sr : Vec F S256x128 .bf16) (x1 : Vec F S10000x128 .f32) (acc : Vec F S128x128 .f32) : Vec F S128x128 .f32 :=
  k0_pay1 (k0_pay22 k0_pay15 (k0_pay16 x1) (k0_pay17 x1) (k0_pay18 sr x1) (k0_pay19 x1) acc)

/-- The total weight after one more block of the memory. -/
def totStep (sr : Vec F S256x128 .bf16) (x1 : Vec F S10000x128 .f32) (acc : Vec F S8x128 .f32) : Vec F S8x128 .f32 :=
  k0_pay2 (k0_pay21 k0_pay15 (k0_pay17 x1) (k0_pay18 sr x1) (k0_pay19 x1)) acc

/-- Column 0 of the total, the 8x1 the last point loads. -/
def totCol (tot : Vec F S8x128 .f32) : Vec F S8x1 .f32 := fun j =>
  tot ((Rect.unit (s := S8x128) ![0, 0] S8x1.size inb_S8x128_S8x1_0_0).emb j)

/-- The whole-buffer load of the kept rows, after the two stores that fill it, reads what they left. -/
theorem read_rows {sp : Space} (v : View sig .tc sp S256x128 .bf16) (wB wA : Vec F S128x128 .bf16) :
    View.readCov (Val := Elt F) v [⟨Rect.unit (s := S256x128) ![128, 0] S128x128.size inb_S256x128_S128x128_128_0, wB⟩,
        ⟨Rect.unit (s := S256x128) ![0, 0] S128x128.size inb_S256x128_S128x128_0_0, wA⟩]
        (Rect.unit (s := S256x128) ![0, 0] S256x128.size inb_S256x128_S256x128_0_0).toLoadRect
      = View.canon (Val := Elt F) [⟨Rect.unit (s := S256x128) ![128, 0] S128x128.size inb_S256x128_S128x128_128_0, wB⟩,
        ⟨Rect.unit (s := S256x128) ![0, 0] S128x128.size inb_S256x128_S128x128_0_0, wA⟩] := by
  refine (View.readCov_eq_canon' (Val := Elt F) v _ _).trans ?_
  exact View.ld_unit_zero (Val := Elt F) (S := S256x128) off_zero inb_S256x128_S256x128_0_0 _

/-- The load of column 0 of the total, after the store that fills it, reads that column. -/
theorem read_col {sp : Space} (v : View sig .tc sp S8x128 .f32) (w : Vec F S8x128 .f32) :
    View.readCov (Val := Elt F) v [⟨Rect.unit (s := S8x128) ![0, 0] S8x128.size inb_S8x128_S8x128_0_0, w⟩]
        (Rect.unit (s := S8x128) ![0, 0] S8x1.size inb_S8x128_S8x1_0_0).toLoadRect
      = totCol w := by
  refine (View.readCov_eq_canon' (Val := Elt F) v _ _).trans ?_
  rw [View.canon_unit_zero (Val := Elt F) (S := S8x128) off_zero]
  rfl

variable (c : Dev nD) (i : grid0.Coords)
  (arg1 : Memref sig .tc .vmem S128x128 .f32) (harg1 : arg1.IsWhole)
  (arg2 : Memref sig .tc .vmem S10000x128 .f32) (harg2 : arg2.IsWhole)
  (arg3 : Memref sig .tc .vmem S128x128 .f32) (harg3 : arg3.IsWhole)
  (arg4 : Memref sig .tc .vmem S1x128 .f32) (harg4 : arg4.IsWhole)
  (arg5 : Memref sig .tc .vmem S1x128 .f32) (harg5 : arg5.IsWhole)
  (arg6 : Memref sig .tc .vmem S1x128 .f32) (harg6 : arg6.IsWhole)
  (arg7 : Memref sig .tc .vmem S128x128 .f32) (harg7 : arg7.IsWhole)
  (arg8 : Memref sig .tc .vmem S1x128 .f32) (harg8 : arg8.IsWhole)
  (arg9 : Memref sig .tc .vmem S128x128 .f32) (harg9 : arg9.IsWhole)
  (arg10 : Memref sig .tc .vmem S256x128 .bf16) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S8x128 .f32) (harg13 : arg13.IsWhole)
  (x0 : Vec F S128x128 .f32) (x1 : Vec F S10000x128 .f32) (x2 : Vec F S128x128 .f32) (x3 : Vec F S1x128 .f32)
  (x4 : Vec F S1x128 .f32) (x5 : Vec F S1x128 .f32) (x6 : Vec F S128x128 .f32) (x7 : Vec F S1x128 .f32)

/-- The first point keeps the rows. -/
theorem first_rows (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7
      = rowsOf x0 x2 x3 x4 x5 x6 x7 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]
  rfl

/-- The first point keeps the raw action. -/
theorem first_raw (hc0 : cond0_0 i) (hc1 : ¬cond0_1 i) :
    sout0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7
      = k0_pay10 (k0_pay5 x0 x2 x3 x4 x5 x6) x7 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_unit_zero (S := S128x128) off_zero]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]

/-- The first point leaves the correction of block 0, over the zero it reset to. -/
theorem first_corr (hc0 : cond0_0 i) (hc1 : ¬cond0_1 i) :
    sout0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7
      = corrStep (rowsOf x0 x2 x3 x4 x5 x6 x7) x1 k0_pay13 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S128x128) off_zero, View.readCov_unit_zero (S := S128x128) _ off_zero]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]
  rw [read_rows]
  rfl

/-- The first point leaves the total of block 0, over the zero it reset to. -/
theorem first_tot (hc0 : cond0_0 i) (hc1 : ¬cond0_1 i) :
    sout0_A_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7
      = totStep (rowsOf x0 x2 x3 x4 x5 x6 x7) x1 k0_pay14 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7)]
  unfold kernelRun0_A
  dsimp only
  sl_unfold_words
  rw [View.canon_cons_unit_zero (S := S8x128) off_zero, View.readCov_unit_zero (S := S8x128) _ off_zero]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]
  rw [read_rows]
  rfl

/-- A middle point adds its block to the correction. -/
theorem middle_corr (hc0 : ¬cond0_0 i) (hc1 : ¬cond0_1 i) (xs0 : Vec F S256x128 .bf16) (xs1 : Vec F S128x128 .f32) (xs2 : Vec F S128x128 .f32) (xs3 : Vec F S8x128 .f32) :
    sout0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3
      = corrStep xs0 x1 xs2 := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3)]
  unfold kernelRun0_B
  dsimp only
  sl_unfold_words
  rw [View.canon_unit_zero (S := S128x128) off_zero]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]
  rfl

/-- A middle point adds its block to the total. -/
theorem middle_tot (hc0 : ¬cond0_0 i) (hc1 : ¬cond0_1 i) (xs0 : Vec F S256x128 .bf16) (xs1 : Vec F S128x128 .f32) (xs2 : Vec F S128x128 .f32) (xs3 : Vec F S8x128 .f32) :
    sout0_B_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3
      = totStep xs0 x1 xs3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3)]
  unfold kernelRun0_B
  dsimp only
  sl_unfold_words
  rw [View.canon_unit_zero (S := S8x128) off_zero]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]
  rfl

/-- A last point adds its block to the correction. -/
theorem last_corr (hc0 : ¬cond0_0 i) (hc1 : cond0_1 i) (xs0 : Vec F S256x128 .bf16) (xs1 : Vec F S128x128 .f32) (xs2 : Vec F S128x128 .f32) (xs3 : Vec F S8x128 .f32) :
    sout0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3
      = corrStep xs0 x1 xs2 := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3)]
  unfold kernelRun0_C
  dsimp only
  sl_unfold_words
  rw [View.canon_unit_zero (S := S128x128) off_zero]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]
  rfl

/-- A last point adds its block to the total. -/
theorem last_tot (hc0 : ¬cond0_0 i) (hc1 : cond0_1 i) (xs0 : Vec F S256x128 .bf16) (xs1 : Vec F S128x128 .f32) (xs2 : Vec F S128x128 .f32) (xs3 : Vec F S8x128 .f32) :
    sout0_C_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3
      = totStep xs0 x1 xs3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3)]
  unfold kernelRun0_C
  dsimp only
  sl_unfold_words
  rw [View.canon_unit_zero (S := S8x128) off_zero]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]
  rfl

/-- The last point writes the output from the raw action and the finished correction and total. -/
theorem last_out (hc0 : ¬cond0_0 i) (hc1 : cond0_1 i) (xs0 : Vec F S256x128 .bf16) (xs1 : Vec F S128x128 .f32) (xs2 : Vec F S128x128 .f32) (xs3 : Vec F S8x128 .f32) :
    out0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3
      = k0_pay3 xs1 (k0_pay7 (totCol (totStep xs0 x1 xs3)) xs1 (corrStep xs0 x1 xs2)) (k0_pay8 (totCol (totStep xs0 x1 xs3))) := by
  unfold out0_C_8
  rw [View.read_writes_eq_canon _ _ _ (cover0_C_8 c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 xs0 xs1 xs2 xs3)]
  unfold kernelRun0_C
  dsimp only
  sl_unfold_words
  rw [View.canon_unit_zero (S := S128x128) off_zero, View.readCov_unit_zero (S := S128x128) _ off_zero]
  rw [read_col]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, View.ld_unit_zero (S := S128x128) off_zero, View.ld_unit_zero (S := S10000x128) off_zero, View.ld_unit_zero (S := S1x128) off_zero, View.ld_unit_zero (S := S8x128) off_zero, View.ld_unit_zero (S := S256x128) off_zero]
  rfl

end Cert.KernelIdeal.Value

end
-- ==== Proof.Math.lean ====
/-
  The mathematics of the memory-corrected policy head, written once over plain functions on the extended reals, and the
  facts by which the kernel's order of operations gives the same values. Nothing here mentions a program.
-/
module

public import Idealize.ShloMosaic.Lib.Pointwise

@[expose] public section

noncomputable section

namespace Cert.Memory

open Idealize.ShloMosaic
open scoped BigOperators

/-! ## The numbers written in the programs -/

/-- The 1e-8 added to a norm. -/
abbrev epsNorm : EReal := Ideal.ofBits .f32 0x322BCC77#32
/-- The 1e-5 added to the variance and to the total weight. -/
abbrev epsVar : EReal := Ideal.ofBits .f32 0x3727C5AC#32
/-- The 1e-12 under which a squared norm is raised. -/
abbrev epsSq : EReal := Ideal.ofBits .f32 0x2B8CBCCC#32
/-- The threshold 0.1 of the similarity. -/
abbrev thrSim : EReal := Ideal.ofBits .f32 0x3DCCCCCD#32
/-- The threshold 0.01 of the compound weight and of the total. -/
abbrev thrTot : EReal := Ideal.ofBits .f32 0x3C23D70A#32
/-- The threshold 1e-6 of a squared norm. -/
abbrev thrSq : EReal := Ideal.ofBits .f32 0x358637BD#32
/-- The 128 of a mean. -/
abbrev width : EReal := Ideal.ofBits .f32 0x43000000#32
/-- The one half of the correction. -/
abbrev half : EReal := Ideal.ofBits .f32 0x3F000000#32

/-- The 1e-8 is a positive real. -/
theorem epsNorm_pos : ∃ r : ℝ, 0 < r ∧ epsNorm = (r : EReal) := by
  refine ⟨_, ?_, by simp [epsNorm, Ideal.ofBits, Ideal.ieee, -EReal.coe_mul]; rfl⟩; norm_num
/-- The 1e-5 is a positive real. -/
theorem epsVar_pos : ∃ r : ℝ, 0 < r ∧ epsVar = (r : EReal) := by
  refine ⟨_, ?_, by simp [epsVar, Ideal.ofBits, Ideal.ieee, -EReal.coe_mul]; rfl⟩; norm_num
/-- The 1e-12 is a positive real. -/
theorem epsSq_pos : ∃ r : ℝ, 0 < r ∧ epsSq = (r : EReal) := by
  refine ⟨_, ?_, by simp [epsSq, Ideal.ofBits, Ideal.ieee, -EReal.coe_mul]; rfl⟩; norm_num
/-- The 0.1 is a positive real. -/
theorem thrSim_pos : ∃ r : ℝ, 0 < r ∧ thrSim = (r : EReal) := by
  refine ⟨_, ?_, by simp [thrSim, Ideal.ofBits, Ideal.ieee, -EReal.coe_mul]; rfl⟩; norm_num
/-- The 128 is a positive real. -/
theorem width_pos : ∃ r : ℝ, 0 < r ∧ width = (r : EReal) := by
  refine ⟨_, ?_, by simp [width, Ideal.ofBits, Ideal.ieee, -EReal.coe_mul]; rfl⟩; norm_num

/-! ## The specification -/

/-- The scalar product of two rows. -/
def dot (u v : Fin 128 → EReal) : EReal := ∑ d, u d * v d
/-- A row's norm with the 1e-8 added. -/
def norm (v : Fin 128 → EReal) : EReal := Ideal.sqrt (dot v v) + epsNorm
/-- The stabilised cosine of two rows. -/
def cosine (u v : Fin 128 → EReal) : EReal := Ideal.div (dot u v) (norm u * norm v)
/-- A similarity counts only above the threshold. -/
def keep (c s : EReal) : EReal := if c < s then s else 0
/-- The compound weight of a memory row for one sequence: the sum of its kept similarities. -/
def compound (X : Fin 32 → Fin 128 → EReal) (v : Fin 128 → EReal) : EReal := ∑ s, keep thrSim (cosine (X s) v)
/-- The compound weight counts only if it is above its threshold and the memory row is not tiny. -/
def pick (c n : EReal) : EReal := if thrTot < c ∧ thrSq < n then c else 0
/-- The effective weight of a memory row for one sequence. -/
def eff (X : Fin 32 → Fin 128 → EReal) (v : Fin 128 → EReal) : EReal := pick (compound X v) (dot v v)
/-- The total weight over the memory. -/
def total (X : Fin 32 → Fin 128 → EReal) (M : Fin 100000 → Fin 128 → EReal) : EReal := ∑ k, eff X (M k)
/-- One memory row's part of the correction of the raw action `a`, in component `d`. -/
def part (X : Fin 32 → Fin 128 → EReal) (a v : Fin 128 → EReal) (d : Fin 128) : EReal :=
  Ideal.div (dot a v) (max (dot v v) epsSq) * eff X v * v d
/-- The correction: the weighted sum of the projections on the memory rows. -/
def corr (X : Fin 32 → Fin 128 → EReal) (M : Fin 100000 → Fin 128 → EReal) (a : Fin 128 → EReal) (d : Fin 128) : EReal :=
  ∑ k, part X a (M k) d
/-- A mean of 128 numbers. -/
def mean (h : Fin 128 → EReal) : EReal := Ideal.div (∑ j, h j) width
/-- The mean square distance from the mean. -/
def variance (h : Fin 128 → EReal) : EReal := mean fun j => (h j - mean h) * (h j - mean h)
/-- The first layer. -/
def hidden (x : Fin 128 → EReal) (W : Fin 128 → Fin 128 → EReal) (b : Fin 128 → EReal) (j : Fin 128) : EReal := dot x (W j) + b j
/-- Normalisation, scale, shift and the positive part. -/
def act (h g b : Fin 128 → EReal) (j : Fin 128) : EReal :=
  max (Ideal.div (h j - mean h) (Ideal.sqrt (variance h + epsVar)) * g j + b j) 0
/-- The raw action of one row of `x`. -/
def raw (x : Fin 128 → EReal) (W1 : Fin 128 → Fin 128 → EReal) (b1 g b : Fin 128 → EReal) (W2 : Fin 128 → Fin 128 → EReal)
    (b2 : Fin 128 → EReal) (l : Fin 128) : EReal := dot (act (hidden x W1 b1) g b) (W2 l) + b2 l
/-- The result: the raw action, corrected when the total weight is above its threshold. -/
def result (a : EReal) (t c : EReal) : EReal := if thrTot < t then a + Ideal.div (half * c) (t + epsVar) else a

/-! ## Facts about the extended reals -/

/-- A square is not negative. -/
theorem mul_self_nonneg (a : EReal) : 0 ≤ a * a := by
  induction a with
  | bot => simp
  | top => simp
  | coe r => exact_mod_cast _root_.mul_self_nonneg r

/-- A row's square sum is not negative. -/
theorem dot_self_nonneg (v : Fin 128 → EReal) : 0 ≤ dot v v := Finset.sum_nonneg fun _ _ => mul_self_nonneg _

/-- The root of a number that is not negative is not negative. -/
theorem sqrt_nonneg {a : EReal} (h : 0 ≤ a) : 0 ≤ Ideal.sqrt a := by
  induction a with
  | bot => simp at h
  | top => simp
  | coe r =>
    rw [Ideal.sqrt_coe, if_neg (not_lt.mpr (EReal.coe_nonneg.mp h))]
    exact EReal.coe_nonneg.mpr (Real.sqrt_nonneg r)

/-- A number that is not negative plus a positive real is positive. -/
theorem add_pos_real {a e : EReal} (h : 0 ≤ a) (he : ∃ r : ℝ, 0 < r ∧ e = (r : EReal)) : 0 < a + e := by
  obtain ⟨r, hr, rfl⟩ := he
  exact lt_of_lt_of_le (EReal.coe_pos.mpr hr) (le_add_of_nonneg_left h)

/-- A row's stabilised norm is positive. -/
theorem norm_pos (v : Fin 128 → EReal) : 0 < norm v := add_pos_real (sqrt_nonneg (dot_self_nonneg v)) epsNorm_pos

/-- The inverse of a positive number is not negative. -/
theorem inv_nonneg {a : EReal} (h : 0 < a) : 0 ≤ a⁻¹ := EReal.inv_nonneg_of_nonneg h.le

/-- The inverse of a positive number is finite. -/
theorem inv_ne_top {a : EReal} (h : 0 < a) : a⁻¹ ≠ ⊤ := by
  induction a with
  | bot => simp at h
  | top => simp
  | coe r => rw [← EReal.coe_inv]; exact EReal.coe_ne_top _

/-- A quotient by a positive number is the product with its inverse. -/
theorem div_pos_eq {a : EReal} (x : EReal) (h : 0 < a) : Ideal.div x a = x * a⁻¹ := by
  unfold Ideal.div; rw [if_neg h.ne']

/-- A sum of multiples by one finite factor that is not negative is that multiple of the sum. -/
theorem sum_mul_const {ι : Type} (s : Finset ι) (f : ι → EReal) {x : EReal} (h : 0 ≤ x) (h' : x ≠ ⊤) :
    ∑ i ∈ s, f i * x = (∑ i ∈ s, f i) * x := by
  classical
  induction s using Finset.induction_on with
  | empty => simp
  | insert a s ha ih => rw [Finset.sum_insert ha, Finset.sum_insert ha, ih, EReal.right_distrib_of_nonneg_of_ne_top h h']

/-- Scaling a row by the inverse of a positive number scales the scalar product. -/
theorem dot_scaled (u v : Fin 128 → EReal) {a : EReal} (h : 0 < a) :
    dot (fun d => u d * Ideal.div 1 a) v = dot u v * a⁻¹ := by
  unfold dot
  rw [← sum_mul_const _ _ (inv_nonneg h) (inv_ne_top h)]
  refine Finset.sum_congr rfl fun d _ => ?_
  rw [div_pos_eq 1 h, one_mul, mul_right_comm]

/-- Thresholding before the division by a positive number, against the threshold multiplied by it, is thresholding after it. -/
theorem keep_div (E : EReal) {c b : EReal} (hb : 0 < b) (hc : 0 ≤ c) : keep (c * b) E * b⁻¹ = keep c (E * b⁻¹) := by
  induction b with
  | bot => simp at hb
  | top =>
    unfold keep
    simp [not_lt.mpr hc]
  | coe r =>
    have hr : 0 < r := EReal.coe_pos.mp hb
    have key : c < E * (r : EReal)⁻¹ ↔ c * (r : EReal) < E := by
      rw [← EReal.lt_div_iff hb (EReal.coe_ne_top r), EReal.div_eq_inv_mul, mul_comm]
    unfold keep
    by_cases h : c * (r : EReal) < E
    · rw [if_pos h, if_pos (key.mpr h)]
    · rw [if_neg h, if_neg (fun h' => h (key.mp h')), zero_mul]

/-- The kernel's compound weight: the rows scaled first, the threshold scaled by the memory row's norm, one division last. -/
theorem compound_eq (X : Fin 32 → Fin 128 → EReal) (v : Fin 128 → EReal) :
    Ideal.div (∑ s, keep (thrSim * norm v) (dot (fun d => X s d * Ideal.div 1 (norm (X s))) v)) (norm v) = compound X v := by
  have hb := norm_pos v
  have hc : 0 ≤ thrSim := by
    obtain ⟨r, hr, e⟩ := thrSim_pos
    rw [e]; exact (EReal.coe_pos.mpr hr).le
  rw [div_pos_eq _ hb, ← sum_mul_const _ _ (inv_nonneg hb) (inv_ne_top hb)]
  refine Finset.sum_congr rfl fun s _ => ?_
  have ha := norm_pos (X s)
  rw [keep_div _ hb hc, dot_scaled _ _ ha]
  unfold cosine
  rw [div_pos_eq _ (EReal.mul_pos ha hb), EReal.mul_inv, mul_assoc]

/-- The kernel's order of the factors of one part of the correction. -/
theorem part_eq (X : Fin 32 → Fin 128 → EReal) (a v : Fin 128 → EReal) (d : Fin 128) :
    dot a v * (eff X v * Ideal.div 1 (max (dot v v) epsSq)) * v d = part X a v d := by
  have hn : 0 < max (dot v v) epsSq := by
    obtain ⟨r, hr, e⟩ := epsSq_pos
    exact lt_of_lt_of_le (by rw [e]; exact EReal.coe_pos.mpr hr) (le_max_right _ _)
  unfold part
  rw [div_pos_eq _ hn, div_pos_eq _ hn, one_mul]
  congr 1
  rw [mul_comm (eff X v), mul_assoc]

/-- The product with the reciprocal root is the quotient by the root, at a positive number. -/
theorem mul_rsqrt (x : EReal) {w : EReal} (h : 0 < w) : x * Ideal.rsqrt w = Ideal.div x (Ideal.sqrt w) := by
  induction w with
  | bot => simp at h
  | top => simp [Ideal.div]
  | coe r =>
    have hr : 0 < r := EReal.coe_pos.mp h
    have hs : (0 : EReal) < (Real.sqrt r : EReal) := EReal.coe_pos.mpr (Real.sqrt_pos.mpr hr)
    rw [Ideal.rsqrt_coe, Ideal.sqrt_coe, if_neg (not_lt.mpr hr.le), if_neg hr.ne', if_neg (not_lt.mpr hr.le), div_pos_eq _ hs,
      EReal.coe_inv]

/-- A variance is not negative. -/
theorem variance_nonneg (h : Fin 128 → EReal) : 0 ≤ variance h := by
  obtain ⟨r, hr, e⟩ := width_pos
  unfold variance
  have hw : 0 < width := by rw [e]; exact EReal.coe_pos.mpr hr
  unfold mean
  rw [div_pos_eq _ hw]
  exact EReal.mul_nonneg (Finset.sum_nonneg fun _ _ => mul_self_nonneg _) (inv_nonneg hw)

/-- The kernel's normalisation, by the reciprocal root. -/
theorem act_eq (h g b : Fin 128 → EReal) (j : Fin 128) :
    max ((h j - mean h) * Ideal.rsqrt (variance h + epsVar) * g j + b j) 0 = act h g b j := by
  unfold act
  rw [mul_rsqrt _ (add_pos_real (variance_nonneg h) epsVar_pos)]

/-- The programs' choice between the compound weight and zero, on the conjunction of the two comparisons. -/
theorem select_pick (c n : EReal) :
    Scalar.select (IntOp.andi (BitVec.ofBool (decide (thrTot < c))) (BitVec.ofBool (decide (thrSq < n)))) c 0 = pick c n := by
  unfold pick
  by_cases h1 : thrTot < c <;> by_cases h2 : thrSq < n <;> simp [h1, h2, Scalar.select, IntOp.andi]

/-! ## Sums cut into blocks -/

/-- The index of row `s` of block `j`, of `n` rows each. -/
theorem block_lt {a n : ℕ} (j : Fin a) (s : Fin n) : n * j.val + s.val < a * n := by
  have h1 := j.isLt
  have h2 := s.isLt
  calc n * j.val + s.val < n * j.val + n := by omega
    _ = n * (j.val + 1) := by ring
    _ ≤ n * a := Nat.mul_le_mul_left n h1
    _ = a * n := Nat.mul_comm n a

/-- A sum over all rows is the sum over the blocks of the sums over a block's rows. -/
theorem sum_blocks {a n N : ℕ} (hN : N = a * n) (f : Fin N → EReal) :
    ∑ k, f k = ∑ j : Fin a, ∑ s : Fin n, f ⟨n * j.val + s.val, hN ▸ block_lt j s⟩ := by
  subst hN
  rw [← Equiv.sum_comp finProdFinEquiv, Fintype.sum_prod_type]
  refine Finset.sum_congr rfl fun j _ => Finset.sum_congr rfl fun s _ => congrArg f (Fin.ext ?_)
  simp [finProdFinEquiv, Nat.add_comm]

/-- A sum over the 128 rows against the selector of one group of 32 is the sum over the group. -/
theorem sum_selected (j : Fin 4) (f : Fin 128 → EReal) :
    ∑ r : Fin 128, (if j.val = r.val / 32 then (1 : EReal) else 0) * f r
      = ∑ s : Fin 32, f ⟨32 * j.val + s.val, block_lt (a := 4) j s⟩ := by
  rw [sum_blocks (a := 4) (n := 32) rfl, Finset.sum_eq_single j]
  · refine Finset.sum_congr rfl fun s _ => ?_
    rw [if_pos (by have := s.isLt; dsimp only; omega), one_mul]
  · intro i _ hi
    refine Finset.sum_eq_zero fun s _ => ?_
    have hne : ¬j.val = (32 * i.val + s.val) / 32 := by
      have := s.isLt
      intro h; apply hi; apply Fin.ext; omega
    rw [if_neg hne, zero_mul]
  · intro h; exact absurd (Finset.mem_univ _) h

/-- A sum of eight numbers against the selector of row `r`'s group is that group's number. -/
theorem sum_group (r : Fin 128) (f : Fin 8 → EReal) :
    ∑ j : Fin 8, (if j.val = r.val / 32 then (1 : EReal) else 0) * f j = f ⟨r.val / 32, by have := r.isLt; omega⟩ := by
  rw [Finset.sum_eq_single ⟨r.val / 32, by have := r.isLt; omega⟩]
  · simp
  · intro b _ hb
    rw [if_neg fun h => hb (Fin.ext h), zero_mul]
  · intro h; exact absurd (Finset.mem_univ _) h

end Cert.Memory

end
-- ==== Proof.Payload.lean ====
/-
  The kernel's arithmetic over the extended reals, at one index: the raw action, the rows kept for the sweep, one block's
  step of the correction and of the total weight, and the result.
-/
module

public import proofs.«01_k».proof.Proof.Cases
public import proofs.«01_k».proof.Proof.Math

@[expose] public section

set_option maxRecDepth 16384

noncomputable section

namespace Cert.KernelIdeal.Value

open Cert.KernelIdeal Cert.KernelIdeal.Gen Idealize.ShloMosaic Idealize.ShloMosaic.TcCoe Idealize.SL.Sem
open Cert.Memory
open scoped BigOperators

/-! ## The selectors -/

/-- The word the kernel computes for `j = l / 32`, by the floor division of words. -/
theorem sel_word : ∀ (j : Fin 8) (l : Fin 128), (BitVec.setWidth 32 (IntOp.cmpi CmpIPredicate.eq (BitVec.ofNat 32 j.val)
          (Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (Scalar.extui (Scalar.cmpi CmpIPredicate.sgt 32#32 0#32))
                  (Scalar.extui (Scalar.cmpi CmpIPredicate.slt 32#32 0#32))))
              (IntOp.cmpi CmpIPredicate.ne (IntOp.remsi ArithUnit.vector (BitVec.ofNat 32 l.val) 32#32) 0#32))
            (IntOp.subi (IntOp.divsi ArithUnit.vector (BitVec.ofNat 32 l.val) 32#32) 1#32)
            (IntOp.divsi ArithUnit.vector (BitVec.ofNat 32 l.val) 32#32))) : BitVec 32)
      = if j.val = l.val / 32 then 1#32 else 0#32 := by
  decide +kernel

/-- A one-or-zero word as a number. -/
theorem word_one_zero (p : Prop) [Decidable p] :
    (FloatOps.sitofp (F := Ideal) .f32 (if p then 1#32 else 0#32) : EReal) = if p then 1 else 0 := by
  by_cases h : p
  · rw [if_pos h, if_pos h]
    show (((1#32 : BitVec 32).toInt : ℝ) : EReal) = 1
    norm_num
  · rw [if_neg h, if_neg h]
    show (((0#32 : BitVec 32).toInt : ℝ) : EReal) = 0
    norm_num

/-- The row selector: one at the rows of group `j`, zero elsewhere. -/
theorem sel_apply (j : Fin 8) (l : Fin 128) :
    k0_pay15 (F := Ideal) (ix2 j l) = (if j.val = l.val / 32 then 1 else 0 : EReal) := by
  pointwise [k0_pay15]
  rw [sel_word, word_one_zero]

/-! ## The rows kept -/

/-- The raw action of row `r`. -/
theorem raw_apply (x0 w2 w6 : Vec Ideal S128x128 .f32) (x3 x4 x5 x7 : Vec Ideal S1x128 .f32) (r l : Fin 128) :
    k0_pay10 (F := Ideal) (k0_pay5 x0 w2 x3 x4 x5 w6) x7 (ix2 r l)
      = raw (fun d => x0 (ix2 r d)) (fun j d => w2 (ix2 j d)) (fun j => x3 (ix2 0 j)) (fun j => x4 (ix2 0 j))
          (fun j => x5 (ix2 0 j)) (fun j d => w6 (ix2 j d)) (fun j => x7 (ix2 0 j)) l := by
  pointwise [k0_pay10, k0_pay9, k0_pay5, k0_pay4]
  unfold raw
  simp only [dot, ← act_eq]
  rfl

/-- The raw action as it is kept among the rows. -/
theorem raw_kept (a : FVec Ideal S128x128 .f32) (b : Vec Ideal S1x128 .f32) (r l : Fin 128) :
    k0_pay12 (F := Ideal) a b (ix2 r l) = (k0_pay10 (F := Ideal) a b (ix2 r l) : EReal) := by
  pointwise [k0_pay12, k0_pay10]

/-- A row of `x` as it is kept: divided by its norm. -/
theorem scaled_apply (x0 : Vec Ideal S128x128 .f32) (r l : Fin 128) :
    k0_pay11 (F := Ideal) (k0_pay4 x0) (ix2 r l) = (x0 (ix2 r l) * Ideal.div 1 (norm fun d => x0 (ix2 r d)) : EReal) := by
  pointwise [k0_pay11, k0_pay4]
  rfl

/-- The first 128 rows kept. -/
theorem rows_top (x0 x2 x6 : Vec Ideal S128x128 .f32) (x3 x4 x5 x7 : Vec Ideal S1x128 .f32) (r l : Fin 128) :
    rowsOf x0 x2 x3 x4 x5 x6 x7 (ix2 ⟨r.val, by omega⟩ l) = (x0 (ix2 r l) * Ideal.div 1 (norm fun d => x0 (ix2 r d)) : EReal) := by
  unfold rowsOf
  rw [View.canon_cons_of_not_mem]
  · have e : (ix2 ⟨r.val, by omega⟩ l : S256x128.Idx)
        = (Rect.unit (s := S256x128) ![0, 0] S128x128.size inb_S256x128_S128x128_0_0).emb (ix2 r l) := by
      funext a; apply Fin.ext
      match a with
      | ⟨0, _⟩ => show r.val = 0 + 1 * r.val; omega
      | ⟨1, _⟩ => show l.val = 0 + 1 * l.val; omega
    rw [e, View.canon_cons_emb]
    exact scaled_apply x0 r l
  · intro h
    have h0 := ((Rect.mem_set_unit (inb := inb_S256x128_S128x128_128_0)).mp h 0).1
    have h1 : 128 ≤ r.val := h0
    omega

/-- The last 128 rows kept. -/
theorem rows_bottom (x0 x2 x6 : Vec Ideal S128x128 .f32) (x3 x4 x5 x7 : Vec Ideal S1x128 .f32) (r l : Fin 128) :
    rowsOf x0 x2 x3 x4 x5 x6 x7 (ix2 ⟨128 + r.val, by omega⟩ l)
      = (k0_pay10 (F := Ideal) (k0_pay5 x0 x2 x3 x4 x5 x6) x7 (ix2 r l) : EReal) := by
  unfold rowsOf
  have e : (ix2 ⟨128 + r.val, by omega⟩ l : S256x128.Idx)
      = (Rect.unit (s := S256x128) ![128, 0] S128x128.size inb_S256x128_S128x128_128_0).emb (ix2 r l) := by
    funext a; apply Fin.ext
    match a with
    | ⟨0, _⟩ => show 128 + r.val = 128 + 1 * r.val; omega
    | ⟨1, _⟩ => show l.val = 0 + 1 * l.val; omega
  rw [e, View.canon_cons_emb]
  exact raw_kept _ _ r l

/-! ## One block of the memory -/

/-- The square sums of a block's rows. -/
theorem nsq_apply (x1 : Vec Ideal S10000x128 .f32) (k : Fin 10000) :
    k0_pay17 (F := Ideal) x1 (ix2 0 k) = (dot (fun d => x1 (ix2 k d)) (fun d => x1 (ix2 k d)) : EReal) := by
  pointwise [k0_pay17]
  rfl

/-- Their roots. -/
theorem root_apply (x1 : Vec Ideal S10000x128 .f32) (k : Fin 10000) :
    k0_pay19 (F := Ideal) x1 (ix2 0 k) = (Ideal.sqrt (dot (fun d => x1 (ix2 k d)) (fun d => x1 (ix2 k d))) : EReal) := by
  pointwise [k0_pay19, k0_pay17]
  rfl

/-- The scalar products of the kept rows with a block's rows. -/
theorem dots_apply (sr : Vec Ideal S256x128 .bf16) (x1 : Vec Ideal S10000x128 .f32) (r : Fin 256) (k : Fin 10000) :
    k0_pay18 (F := Ideal) sr x1 (ix2 r k) = (dot (fun d => sr (ix2 r d)) (fun d => x1 (ix2 k d)) : EReal) := by
  pointwise [k0_pay18, k0_pay16]
  rfl

/-- The block's rows as the correction reads them. -/
theorem block_apply (x1 : Vec Ideal S10000x128 .f32) (k : Fin 10000) (l : Fin 128) :
    k0_pay16 (F := Ideal) x1 (ix2 k l) = (x1 (ix2 k l) : EReal) := by
  pointwise [k0_pay16]

/-- The effective weight of row `k` of the block, for sequence `j`. -/
theorem weight_apply (sr : Vec Ideal S256x128 .bf16) (x1 : Vec Ideal S10000x128 .f32) (x : Fin 128 → Fin 128 → EReal)
    (hsr : ∀ r d : Fin 128, (sr (ix2 ⟨r.val, by omega⟩ d) : EReal) = x r d * Ideal.div 1 (norm (x r)))
    (j : Fin 8) (hj : j.val < 4) (k : Fin 10000) :
    k0_pay20 (F := Ideal) k0_pay15 (k0_pay17 x1) (k0_pay18 sr x1) (k0_pay19 x1) (ix2 j k)
      = (eff (fun s : Fin 32 => x ⟨32 * j.val + s.val, by omega⟩) (fun d => x1 (ix2 k d)) : EReal) := by
  pointwise [k0_pay20]
  simp only [sel_apply, nsq_apply, root_apply, dots_apply, hsr]
  unfold eff
  rw [← select_pick, ← compound_eq]
  have hs := sum_selected ⟨j.val, hj⟩ (fun r : Fin 128 => keep (thrSim * norm (fun d => x1 (ix2 k d)))
    (dot (fun d => x r d * Ideal.div 1 (norm (x r))) (fun d => x1 (ix2 k d))))
  rw [← hs]
  rfl

/-- One block's step of the correction. -/
theorem corrStep_apply (sr : Vec Ideal S256x128 .bf16) (x1 : Vec Ideal S10000x128 .f32) (x a : Fin 128 → Fin 128 → EReal)
    (hsr : ∀ r d : Fin 128, (sr (ix2 ⟨r.val, by omega⟩ d) : EReal) = x r d * Ideal.div 1 (norm (x r)))
    (hsa : ∀ r d : Fin 128, (sr (ix2 ⟨128 + r.val, by omega⟩ d) : EReal) = a r d)
    (acc : Vec Ideal S128x128 .f32) (r l : Fin 128) :
    corrStep (F := Ideal) sr x1 acc (ix2 r l)
      = (acc (ix2 r l) + ∑ k : Fin 10000, part (fun s : Fin 32 => x ⟨32 * (r.val / 32) + s.val, by omega⟩) (a r)
          (fun d => x1 (ix2 k d)) l : EReal) := by
  unfold corrStep
  pointwise [k0_pay1, k0_pay22]
  simp only [weight_apply sr x1 x hsr ⟨r.val / 32, by omega⟩ (by dsimp only; omega), nsq_apply, dots_apply, block_apply, hsa,
    ← part_eq]

/-- One block's step of the total weight. -/
theorem totStep_apply (sr : Vec Ideal S256x128 .bf16) (x1 : Vec Ideal S10000x128 .f32) (x : Fin 128 → Fin 128 → EReal)
    (hsr : ∀ r d : Fin 128, (sr (ix2 ⟨r.val, by omega⟩ d) : EReal) = x r d * Ideal.div 1 (norm (x r)))
    (acc : Vec Ideal S8x128 .f32) (j : Fin 8) (hj : j.val < 4) (l : Fin 128) :
    totStep (F := Ideal) sr x1 acc (ix2 j l)
      = (acc (ix2 j l) + ∑ k : Fin 10000, eff (fun s : Fin 32 => x ⟨32 * j.val + s.val, by omega⟩) (fun d => x1 (ix2 k d)) : EReal) := by
  unfold totStep
  pointwise [k0_pay2, k0_pay21]
  simp only [weight_apply sr x1 x hsr j hj]

/-- The correction starts at zero. -/
theorem corr_zero (r l : Fin 128) : k0_pay13 (F := Ideal) (ix2 r l) = (0 : EReal) := by
  pointwise [k0_pay13]

/-- The total weight starts at zero. -/
theorem tot_zero (j : Fin 8) (l : Fin 128) : k0_pay14 (F := Ideal) (ix2 j l) = (0 : EReal) := by
  pointwise [k0_pay14]

/-! ## The result -/

/-- Column 0 of the total. -/
theorem totCol_apply (t : Vec Ideal S8x128 .f32) (j : Fin 8) : (totCol t (ix2 j 0) : EReal) = t (ix2 j 0) := by
  unfold totCol
  refine congrArg t ?_
  funext a; apply Fin.ext
  match a with
  | ⟨0, _⟩ => show 0 + 1 * j.val = j.val; omega
  | ⟨1, _⟩ => rfl

/-- The result at row `r`, component `l`. -/
theorem out_apply (a y : Vec Ideal S128x128 .f32) (t : Vec Ideal S8x128 .f32) (r l : Fin 128) :
    k0_pay3 (F := Ideal) a (k0_pay7 (totCol t) a y) (k0_pay8 (totCol t)) (ix2 r l)
      = (result (a (ix2 r l)) (t (ix2 ⟨r.val / 32, by omega⟩ 0)) (y (ix2 r l)) : EReal) := by
  pointwise [k0_pay3, k0_pay7, k0_pay8, k0_pay6]
  simp only [sel_word, word_one_zero, totCol_apply]
  rw [sum_group r fun j => t (ix2 j 0)]
  rfl

end Cert.KernelIdeal.Value

end
-- ==== Proof.KernelValue.lean ====
/-
  The kernel's value, at one index: the input blocks read off the arguments, the ten points folded, and the result as the
  specification over the input arrays.
-/
module

public import proofs.«01_k».proof.Proof.Payload

@[expose] public section

set_option maxRecDepth 16384

noncomputable section

namespace Cert.KernelIdeal.Value

open Cert.KernelIdeal Cert.KernelIdeal.Gen Idealize.ShloMosaic Idealize.ShloMosaic.TcCoe Idealize.SL.Sem
open Cert.Memory
open scoped BigOperators

/-! ## The points folded -/

section Fold

variable {F : FTy → Type} [FloatOps F]
variable (m : (ℓ : Loc nD τ sig) → Buf (Elt F) ℓ)

/-- The first point. -/
abbrev pt0 : Fin cfg0.N := ⟨0, lt_of_lt_of_eq (by decide) N_0.symm⟩

/-- The rows the first point keeps. -/
def rows0 (c : Dev nD) : Vec F S256x128 .bf16 :=
  rowsOf (iblk m c 0 pt0) (iblk m c 2 pt0) (iblk m c 3 pt0) (iblk m c 4 pt0) (iblk m c 5 pt0) (iblk m c 6 pt0) (iblk m c 7 pt0)

/-- The raw action the first point keeps. -/
def raw0 (c : Dev nD) : Vec F S128x128 .f32 :=
  k0_pay10 (k0_pay5 (iblk m c 0 pt0) (iblk m c 2 pt0) (iblk m c 3 pt0) (iblk m c 4 pt0) (iblk m c 5 pt0) (iblk m c 6 pt0)) (iblk m c 7 pt0)

/-- The correction after point `n`. -/
def corrAt (c : Dev nD) : (n : ℕ) → n < cfg0.N → Vec F S128x128 .f32
  | 0, h => corrStep (rows0 m c) (iblk m c 1 ⟨0, h⟩) k0_pay13
  | n + 1, h => corrStep (rows0 m c) (iblk m c 1 ⟨n + 1, h⟩) (corrAt c n (Nat.lt_of_succ_lt h))

/-- The total weight after point `n`. -/
def totAt (c : Dev nD) : (n : ℕ) → n < cfg0.N → Vec F S8x128 .f32
  | 0, h => totStep (rows0 m c) (iblk m c 1 ⟨0, h⟩) k0_pay14
  | n + 1, h => totStep (rows0 m c) (iblk m c 1 ⟨n + 1, h⟩) (totAt c n (Nat.lt_of_succ_lt h))

/-- What the carried buffers hold after each point but the last. -/
theorem carried (c : Dev nD) : ∀ (n : ℕ) (h : n < cfg0.N), n < 9 →
    (outsAt0 m c n h).2 = (rows0 m c, raw0 m c, corrAt m c n h, totAt m c n h)
  | 0, h, _ => by
    rw [outsAt0_zero m c h, stAt0_A m c ⟨0, h⟩ _ (Nat.zero_mod _) (fun h' => by dsimp only at h'; omega)]
    dsimp only
    rw [first_rows, first_raw, first_corr, first_tot]
    rfl
  | n + 1, h, h9 => by
    have ih := carried c n (Nat.lt_of_succ_lt h) (by omega)
    rw [outsAt0_succ m c n h, stAt0_B m c ⟨n + 1, h⟩ _ (fun h' => by dsimp only at h'; omega) (fun h' => by dsimp only at h'; omega)]
    dsimp only
    rw [middle_corr, middle_tot, ih]
    rfl

/-- The array the run leaves is the last point's output. -/
theorem array_eq (c : Dev nD) (h : 9 < cfg0.N) :
    G8 m c = k0_pay3 (raw0 m c) (k0_pay7 (totCol (totAt m c 9 h)) (raw0 m c) (corrAt m c 9 h)) (k0_pay8 (totCol (totAt m c 9 h))) := by
  have ih := carried m c 8 (Nat.lt_of_succ_lt h) (by omega)
  rw [G8_last, ← outsAt0_sweep m c 9 h, outsAt0_succ m c 8 h, stAt0_C m c ⟨9, h⟩ _ (fun h' => by dsimp only at h'; omega) (Nat.mod_eq_of_lt (show 9 < 10 by decide))]
  dsimp only
  rw [last_out, ih]
  rfl

end Fold

end Cert.KernelIdeal.Value

end
-- ==== Proof.Blocks.lean ====
/-
  The kernel's input blocks, read off the arguments: the rows of `x` through the host's reshape, block `t` of the memory, the
  weights whole.
-/
module

public import proofs.«01_k».proof.Proof.Gen.KernelIdeal.Value
public import Idealize.ShloMosaic.Lib.Pointwise
public import Idealize.ShloMosaic.Lib.StableHlo.Run

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The kernel finds `x` reshaped to 128 rows. -/
theorem host_x (c : Dev nD) : V m c main_v0 = shapeCast S128x128 (m (c.tc.loc main_arg0)) shapeCasts_S4x32x128_S128x128 := by
  unfold V hostOps0; after_results_simp <;> rfl
/-- The kernel finds the first bias as one row. -/
theorem host_b1 (c : Dev nD) : V m c main_v1 = shapeCast S1x128 (m (c.tc.loc main_arg3)) shapeCasts_S128_S1x128 := by
  unfold V hostOps0; after_results_simp <;> rfl
/-- The kernel finds the scale as one row. -/
theorem host_g (c : Dev nD) : V m c main_v2 = shapeCast S1x128 (m (c.tc.loc main_arg4)) shapeCasts_S128_S1x128 := by
  unfold V hostOps0; after_results_simp <;> rfl
/-- The kernel finds the shift as one row. -/
theorem host_b (c : Dev nD) : V m c main_v3 = shapeCast S1x128 (m (c.tc.loc main_arg5)) shapeCasts_S128_S1x128 := by
  unfold V hostOps0; after_results_simp <;> rfl
/-- The kernel finds the last bias as one row. -/
theorem host_b2 (c : Dev nD) : V m c main_v4 = shapeCast S1x128 (m (c.tc.loc main_arg7)) shapeCasts_S128_S1x128 := by
  unfold V hostOps0; after_results_simp <;> rfl

/-- The block indices: the memory's window moves down a block each point, the others stay. -/
theorem index_facts : ∀ t : Fin cfg0.N,
    win0_0.index t = ![0, 0] ∧ win0_1.index t = ![t.val, 0] ∧ win0_2.index t = ![0, 0] ∧ win0_3.index t = ![0, 0]
      ∧ win0_4.index t = ![0, 0] ∧ win0_5.index t = ![0, 0] ∧ win0_6.index t = ![0, 0] ∧ win0_7.index t = ![0, 0] := by
  intro t
  rcases fin_N0 t with rfl | rfl | rfl | rfl | rfl | rfl | rfl | rfl | rfl | rfl <;> decide +kernel

/-- The reshape of `x` to rows, at an index. -/
theorem cast_x (x : FVec Ideal S4x32x128 .f32) (r d : Fin 128) :
    (shapeCast S128x128 x shapeCasts_S4x32x128_S128x128 : FVec Ideal S128x128 .f32) (ix2 r d)
      = (x (ix3 ⟨r.val / 32, by omega⟩ ⟨r.val % 32, by omega⟩ d) : EReal) := by
  pointwise

/-- The reshape of a vector to one row, at an index. -/
theorem cast_row (x : FVec Ideal S128 .f32) (d : Fin 128) :
    (shapeCast S1x128 x shapeCasts_S128_S1x128 : FVec Ideal S1x128 .f32) (ix2 0 d) = (x (ix1 d) : EReal) := by
  pointwise

/-- Row `r` of `x`, as the kernel reads it. -/
theorem block_x (c : Dev nD) (t : Fin cfg0.N) (r d : Fin 128) :
    (iblk m c 0 t : Vec Ideal S128x128 .f32) (ix2 r d)
      = (m (c.tc.loc main_arg0) (ix3 ⟨r.val / 32, by omega⟩ ⟨r.val % 32, by omega⟩ d) : EReal) := by
  have hi := (index_facts t).1
  unfold iblk
  rw [View.read_apply]
  refine Eq.trans ?_ ((congrFun (host_x m c) (ix2 r d)).trans (cast_x _ r d))
  show V m c main_v0 _ = V m c main_v0 _
  refine congrArg (V m c main_v0) ?_
  funext a; apply Fin.ext
  match a with
  | ⟨0, _⟩ => show win0_0.index t 0 * 128 + 1 * r.val = r.val; rw [hi]; show 0 * 128 + 1 * r.val = _; omega
  | ⟨1, _⟩ => show win0_0.index t 1 * 128 + 1 * d.val = d.val; rw [hi]; show 0 * 128 + 1 * d.val = _; omega

/-- Row `k` of block `t` of the memory. -/
theorem block_mem (c : Dev nD) (t : Fin cfg0.N) (k : Fin 10000) (d : Fin 128) (h : 10000 * t.val + k.val < 100000) :
    (iblk m c 1 t : Vec Ideal S10000x128 .f32) (ix2 k d) = (m (c.tc.loc main_arg1) (ix2 ⟨10000 * t.val + k.val, h⟩ d) : EReal) := by
  have hi := (index_facts t).2.1
  unfold iblk
  rw [View.read_apply]
  refine Eq.trans ?_ (congrFun (V_main_arg1 m c) (ix2 ⟨10000 * t.val + k.val, h⟩ d))
  show V m c main_arg1 _ = V m c main_arg1 _
  refine congrArg (V m c main_arg1) ?_
  funext a; apply Fin.ext
  match a with
  | ⟨0, _⟩ => show win0_1.index t 0 * 10000 + 1 * k.val = 10000 * t.val + k.val; rw [hi]; show t.val * 10000 + 1 * k.val = _; omega
  | ⟨1, _⟩ => show win0_1.index t 1 * 128 + 1 * d.val = d.val; rw [hi]; show 0 * 128 + 1 * d.val = _; omega

/-- The first weights. -/
theorem block_w1 (c : Dev nD) (t : Fin cfg0.N) (j d : Fin 128) :
    (iblk m c 2 t : Vec Ideal S128x128 .f32) (ix2 j d) = (m (c.tc.loc main_arg2) (ix2 j d) : EReal) := by
  have hi := (index_facts t).2.2.1
  unfold iblk
  rw [View.read_apply]
  refine Eq.trans ?_ (congrFun (V_main_arg2 m c) (ix2 j d))
  show V m c main_arg2 _ = V m c main_arg2 _
  refine congrArg (V m c main_arg2) ?_
  funext a; apply Fin.ext
  match a with
  | ⟨0, _⟩ => show win0_2.index t 0 * 128 + 1 * j.val = j.val; rw [hi]; show 0 * 128 + 1 * j.val = _; omega
  | ⟨1, _⟩ => show win0_2.index t 1 * 128 + 1 * d.val = d.val; rw [hi]; show 0 * 128 + 1 * d.val = _; omega

/-- The first bias. -/
theorem block_b1 (c : Dev nD) (t : Fin cfg0.N) (d : Fin 128) :
    (iblk m c 3 t : Vec Ideal S1x128 .f32) (ix2 0 d) = (m (c.tc.loc main_arg3) (ix1 d) : EReal) := by
  have hi := (index_facts t).2.2.2.1
  unfold iblk
  rw [View.read_apply]
  refine Eq.trans ?_ ((congrFun (host_b1 m c) (ix2 0 d)).trans (cast_row _ d))
  show V m c main_v1 _ = V m c main_v1 _
  refine congrArg (V m c main_v1) ?_
  funext a; apply Fin.ext
  match a with
  | ⟨0, _⟩ => show win0_3.index t 0 * 1 + 1 * 0 = 0; rw [hi]; rfl
  | ⟨1, _⟩ => show win0_3.index t 1 * 128 + 1 * d.val = d.val; rw [hi]; show 0 * 128 + 1 * d.val = _; omega

/-- The scale. -/
theorem block_g (c : Dev nD) (t : Fin cfg0.N) (d : Fin 128) :
    (iblk m c 4 t : Vec Ideal S1x128 .f32) (ix2 0 d) = (m (c.tc.loc main_arg4) (ix1 d) : EReal) := by
  have hi := (index_facts t).2.2.2.2.1
  unfold iblk
  rw [View.read_apply]
  refine Eq.trans ?_ ((congrFun (host_g m c) (ix2 0 d)).trans (cast_row _ d))
  show V m c main_v2 _ = V m c main_v2 _
  refine congrArg (V m c main_v2) ?_
  funext a; apply Fin.ext
  match a with
  | ⟨0, _⟩ => show win0_4.index t 0 * 1 + 1 * 0 = 0; rw [hi]; rfl
  | ⟨1, _⟩ => show win0_4.index t 1 * 128 + 1 * d.val = d.val; rw [hi]; show 0 * 128 + 1 * d.val = _; omega

/-- The shift. -/
theorem block_b (c : Dev nD) (t : Fin cfg0.N) (d : Fin 128) :
    (iblk m c 5 t : Vec Ideal S1x128 .f32) (ix2 0 d) = (m (c.tc.loc main_arg5) (ix1 d) : EReal) := by
  have hi := (index_facts t).2.2.2.2.2.1
  unfold iblk
  rw [View.read_apply]
  refine Eq.trans ?_ ((congrFun (host_b m c) (ix2 0 d)).trans (cast_row _ d))
  show V m c main_v3 _ = V m c main_v3 _
  refine congrArg (V m c main_v3) ?_
  funext a; apply Fin.ext
  match a with
  | ⟨0, _⟩ => show win0_5.index t 0 * 1 + 1 * 0 = 0; rw [hi]; rfl
  | ⟨1, _⟩ => show win0_5.index t 1 * 128 + 1 * d.val = d.val; rw [hi]; show 0 * 128 + 1 * d.val = _; omega

/-- The last weights. -/
theorem block_w2 (c : Dev nD) (t : Fin cfg0.N) (j d : Fin 128) :
    (iblk m c 6 t : Vec Ideal S128x128 .f32) (ix2 j d) = (m (c.tc.loc main_arg6) (ix2 j d) : EReal) := by
  have hi := (index_facts t).2.2.2.2.2.2.1
  unfold iblk
  rw [View.read_apply]
  refine Eq.trans ?_ (congrFun (V_main_arg6 m c) (ix2 j d))
  show V m c main_arg6 _ = V m c main_arg6 _
  refine congrArg (V m c main_arg6) ?_
  funext a; apply Fin.ext
  match a with
  | ⟨0, _⟩ => show win0_6.index t 0 * 128 + 1 * j.val = j.val; rw [hi]; show 0 * 128 + 1 * j.val = _; omega
  | ⟨1, _⟩ => show win0_6.index t 1 * 128 + 1 * d.val = d.val; rw [hi]; show 0 * 128 + 1 * d.val = _; omega

/-- The last bias. -/
theorem block_b2 (c : Dev nD) (t : Fin cfg0.N) (d : Fin 128) :
    (iblk m c 7 t : Vec Ideal S1x128 .f32) (ix2 0 d) = (m (c.tc.loc main_arg7) (ix1 d) : EReal) := by
  have hi := (index_facts t).2.2.2.2.2.2.2
  unfold iblk
  rw [View.read_apply]
  refine Eq.trans ?_ ((congrFun (host_b2 m c) (ix2 0 d)).trans (cast_row _ d))
  show V m c main_v4 _ = V m c main_v4 _
  refine congrArg (V m c main_v4) ?_
  funext a; apply Fin.ext
  match a with
  | ⟨0, _⟩ => show win0_7.index t 0 * 1 + 1 * 0 = 0; rw [hi]; rfl
  | ⟨1, _⟩ => show win0_7.index t 1 * 128 + 1 * d.val = d.val; rw [hi]; show 0 * 128 + 1 * d.val = _; omega

end Cert.KernelIdeal.Value

end
-- ==== Proof.RefValue.lean ====
/-
  The reference's value, at one index: the specification over the input arrays.
-/
module

public import proofs.«01_k».proof.Proof.Gen.ReferenceIdeal.Run
public import proofs.«01_k».proof.Proof.Math

@[expose] public section

set_option maxHeartbeats 4000000
set_option maxRecDepth 16384

noncomputable section

namespace Cert.ReferenceIdeal.Value

open Cert.ReferenceIdeal Cert.ReferenceIdeal.Gen Idealize.ShloMosaic Idealize.ShloMosaic.TcCoe Idealize.SL.Sem
open Cert.Memory
open scoped BigOperators

/-- The scalar zero of the reference's selections. -/
theorem zero_apply : (id (constant S_ .f32 0x00000000#32) : FVec Ideal S_ .f32) ix0 = (0 : EReal) := Ideal.ofBits_zero_f32

/-- The reference's result at row `r`, component `l`. -/
theorem ref_apply (m : (ℓ : Loc nD τ sig) → Buf (Elt Ideal) ℓ) (c : Dev nD) (r l : Fin 128) :
    (res_main_v86 m c : FVec Ideal S128x128 .f32) (ix2 r l)
      = result
          (raw (fun d => m (c.tc.loc main_arg0) (ix3 ⟨r.val / 32, by omega⟩ ⟨r.val % 32, by omega⟩ d))
            (fun j d => m (c.tc.loc main_arg2) (ix2 j d)) (fun j => m (c.tc.loc main_arg3) (ix1 j))
            (fun j => m (c.tc.loc main_arg4) (ix1 j)) (fun j => m (c.tc.loc main_arg5) (ix1 j))
            (fun j d => m (c.tc.loc main_arg6) (ix2 j d)) (fun j => m (c.tc.loc main_arg7) (ix1 j)) l)
          (total (fun s d => m (c.tc.loc main_arg0) (ix3 ⟨r.val / 32, by omega⟩ s d)) (fun k d => m (c.tc.loc main_arg1) (ix2 k d)))
          (corr (fun s d => m (c.tc.loc main_arg0) (ix3 ⟨r.val / 32, by omega⟩ s d)) (fun k d => m (c.tc.loc main_arg1) (ix2 k d))
            (raw (fun d => m (c.tc.loc main_arg0) (ix3 ⟨r.val / 32, by omega⟩ ⟨r.val % 32, by omega⟩ d))
              (fun j d => m (c.tc.loc main_arg2) (ix2 j d)) (fun j => m (c.tc.loc main_arg3) (ix1 j))
              (fun j => m (c.tc.loc main_arg4) (ix1 j)) (fun j => m (c.tc.loc main_arg5) (ix1 j))
              (fun j d => m (c.tc.loc main_arg6) (ix2 j d)) (fun j => m (c.tc.loc main_arg7) (ix1 j))) l) := by
  unfold res_main_v86
  pointwise
  simp only [zero_apply, select_pick]
  rfl

end Cert.ReferenceIdeal.Value

end
-- ==== Proof.Equation.lean ====
/-
  The kernel's array, at one index, is the specification over the input arrays; so it is the reference's result.
-/
module

public import proofs.«01_k».proof.Proof.KernelValue
public import proofs.«01_k».proof.Proof.Blocks
public import proofs.«01_k».proof.Proof.RefValue

@[expose] public section

set_option maxRecDepth 16384

noncomputable section

namespace Cert.KernelIdeal.Value

open Cert.KernelIdeal Cert.KernelIdeal.Gen Idealize.ShloMosaic Idealize.ShloMosaic.TcCoe Idealize.SL.Sem
open Cert.Memory
open scoped BigOperators

variable (m : (ℓ : Loc nD τ sig) → Buf (Elt Ideal) ℓ)

/-- Row `r` of `x`, its 4 sequences of 32 rows under one another. -/
def xRow (c : Dev nD) (r d : Fin 128) : EReal := m (c.tc.loc main_arg0) (ix3 ⟨r.val / 32, by omega⟩ ⟨r.val % 32, by omega⟩ d)

/-- Row `k` of the memory. -/
def memRow (c : Dev nD) (k : Fin 100000) (d : Fin 128) : EReal := m (c.tc.loc main_arg1) (ix2 k d)

/-- The raw action of row `r`. -/
def rawRow (c : Dev nD) (r l : Fin 128) : EReal :=
  raw (xRow m c r) (fun j d => m (c.tc.loc main_arg2) (ix2 j d)) (fun j => m (c.tc.loc main_arg3) (ix1 j))
    (fun j => m (c.tc.loc main_arg4) (ix1 j)) (fun j => m (c.tc.loc main_arg5) (ix1 j))
    (fun j d => m (c.tc.loc main_arg6) (ix2 j d)) (fun j => m (c.tc.loc main_arg7) (ix1 j)) l

/-- The rows of sequence `j`. -/
def seqRows (c : Dev nD) (j : ℕ) (hj : j < 4) (s : Fin 32) (d : Fin 128) : EReal := m (c.tc.loc main_arg0) (ix3 ⟨j, hj⟩ s d)

/-- Row `32 j + s` of `x` is row `s` of sequence `j`. -/
theorem xRow_seq (c : Dev nD) (j : ℕ) (hj : j < 4) (s : Fin 32) (h : 32 * j + s.val < 128) :
    xRow m c ⟨32 * j + s.val, h⟩ = seqRows m c j hj s := by
  funext d
  unfold xRow seqRows
  have h1 : (32 * j + s.val) / 32 = j := by have := s.isLt; omega
  have h2 : (32 * j + s.val) % 32 = s.val := by have := s.isLt; omega
  simp only [h1, h2]

/-- The raw action the kernel keeps. -/
theorem raw0_apply (c : Dev nD) (r l : Fin 128) : (raw0 m c (ix2 r l) : EReal) = rawRow m c r l := by
  unfold raw0
  rw [raw_apply]
  simp only [block_x, block_w1, block_b1, block_g, block_b, block_w2, block_b2]
  rfl

/-- The first rows the kernel keeps: `x`'s, each divided by its norm. -/
theorem rows0_top (c : Dev nD) (r d : Fin 128) :
    (rows0 m c (ix2 ⟨r.val, by omega⟩ d) : EReal) = xRow m c r d * Ideal.div 1 (norm (xRow m c r)) := by
  unfold rows0
  rw [rows_top]
  simp only [block_x]
  rfl

/-- The last rows the kernel keeps: the raw action. -/
theorem rows0_bottom (c : Dev nD) (r d : Fin 128) :
    (rows0 m c (ix2 ⟨128 + r.val, by omega⟩ d) : EReal) = rawRow m c r d := by
  unfold rows0
  rw [rows_bottom]
  exact raw0_apply m c r d

/-- Row `k` of block `t` of the memory. -/
theorem block_memRow (c : Dev nD) (t : ℕ) (h : t < cfg0.N) (k : Fin 10000) (hk : 10000 * t + k.val < 100000) :
    (fun d => ((iblk m c 1 ⟨t, h⟩ : Vec Ideal S10000x128 .f32) (ix2 k d) : EReal)) = memRow m c ⟨10000 * t + k.val, hk⟩ :=
  funext fun d => block_mem m c ⟨t, h⟩ k d hk

/-- A row number within the memory. -/
theorem row_lt {n : ℕ} (h : n < cfg0.N) (t : Fin (n + 1)) (k : Fin 10000) : 10000 * t.val + k.val < 100000 := by
  have hN : n < 10 := lt_of_lt_of_eq h N_0
  have := t.isLt
  have := k.isLt
  omega

/-- The correction after point `n`: the parts of the rows of blocks 0 to `n`. -/
theorem corrAt_apply (c : Dev nD) (r l : Fin 128) : ∀ (n : ℕ) (h : n < cfg0.N),
    (corrAt m c n h (ix2 r l) : EReal) = ∑ t : Fin (n + 1), ∑ k : Fin 10000,
      part (seqRows m c (r.val / 32) (by omega)) (rawRow m c r) (memRow m c ⟨10000 * t.val + k.val, row_lt h t k⟩) l
  | 0, h => by
    unfold corrAt
    rw [corrStep_apply (rows0 m c) _ (xRow m c) (rawRow m c) (rows0_top m c) (rows0_bottom m c), corr_zero, zero_add, Fin.sum_univ_one]
    refine Finset.sum_congr rfl fun k _ => ?_
    rw [block_memRow m c 0 h k (row_lt h 0 k)]
    simp only [xRow_seq m c (r.val / 32) (by omega)]
    rfl
  | n + 1, h => by
    unfold corrAt
    rw [corrStep_apply (rows0 m c) _ (xRow m c) (rawRow m c) (rows0_top m c) (rows0_bottom m c),
      corrAt_apply c r l n (Nat.lt_of_succ_lt h)]
    refine Eq.trans ?_ (Fin.sum_univ_castSucc _).symm
    refine congrArg₂ (fun a b : EReal => a + b) rfl (Finset.sum_congr rfl fun k _ => ?_)
    rw [block_memRow m c (n + 1) h k (row_lt h (Fin.last (n + 1)) k)]
    simp only [xRow_seq m c (r.val / 32) (by omega)]
    rfl

/-- The total weight after point `n`: the weights of the rows of blocks 0 to `n`. -/
theorem totAt_apply (c : Dev nD) (j : Fin 8) (hj : j.val < 4) : ∀ (n : ℕ) (h : n < cfg0.N),
    (totAt m c n h (ix2 j 0) : EReal) = ∑ t : Fin (n + 1), ∑ k : Fin 10000,
      eff (seqRows m c j.val hj) (memRow m c ⟨10000 * t.val + k.val, row_lt h t k⟩)
  | 0, h => by
    unfold totAt
    rw [totStep_apply (rows0 m c) _ (xRow m c) (rows0_top m c) _ j hj, tot_zero, zero_add, Fin.sum_univ_one]
    refine Finset.sum_congr rfl fun k _ => ?_
    rw [block_memRow m c 0 h k (row_lt h 0 k)]
    simp only [xRow_seq m c j.val hj]
    rfl
  | n + 1, h => by
    unfold totAt
    rw [totStep_apply (rows0 m c) _ (xRow m c) (rows0_top m c) _ j hj,
      totAt_apply c j hj n (Nat.lt_of_succ_lt h)]
    refine Eq.trans ?_ (Fin.sum_univ_castSucc _).symm
    refine congrArg₂ (fun a b : EReal => a + b) rfl (Finset.sum_congr rfl fun k _ => ?_)
    rw [block_memRow m c (n + 1) h k (row_lt h (Fin.last (n + 1)) k)]
    simp only [xRow_seq m c j.val hj]
    rfl

/-- The kernel's array at row `r`, component `l`. -/
theorem array_apply (c : Dev nD) (r l : Fin 128) :
    ((G8 m c : Vec Ideal S128x128 .f32) (ix2 r l) : EReal)
      = result (rawRow m c r l) (total (seqRows m c (r.val / 32) (by omega)) (memRow m c))
          (corr (seqRows m c (r.val / 32) (by omega)) (memRow m c) (rawRow m c r) l) := by
  have h : 9 < cfg0.N := lt_of_lt_of_eq (by decide) N_0.symm
  refine (congrFun (array_eq m c h) (ix2 r l)).trans ?_
  rw [out_apply, raw0_apply, corrAt_apply m c r l 9 h, totAt_apply m c ⟨r.val / 32, by omega⟩ (by dsimp only; omega) 9 h]
  unfold total corr
  rw [sum_blocks (a := 10) (n := 10000) rfl, sum_blocks (a := 10) (n := 10000) rfl]

/-- From memories agreeing on the arguments, the kernel's array is the reference's result. -/
theorem equal (m' : (ℓ : Loc Cert.ReferenceIdeal.nD Cert.ReferenceIdeal.τ Cert.ReferenceIdeal.sig) → Buf (Elt Ideal) ℓ) (c : Dev nD)
    (h0 : m' (c.tc.loc Cert.ReferenceIdeal.main_arg0) = m (c.tc.loc main_arg0))
    (h1 : m' (c.tc.loc Cert.ReferenceIdeal.main_arg1) = m (c.tc.loc main_arg1))
    (h2 : m' (c.tc.loc Cert.ReferenceIdeal.main_arg2) = m (c.tc.loc main_arg2))
    (h3 : m' (c.tc.loc Cert.ReferenceIdeal.main_arg3) = m (c.tc.loc main_arg3))
    (h4 : m' (c.tc.loc Cert.ReferenceIdeal.main_arg4) = m (c.tc.loc main_arg4))
    (h5 : m' (c.tc.loc Cert.ReferenceIdeal.main_arg5) = m (c.tc.loc main_arg5))
    (h6 : m' (c.tc.loc Cert.ReferenceIdeal.main_arg6) = m (c.tc.loc main_arg6))
    (h7 : m' (c.tc.loc Cert.ReferenceIdeal.main_arg7) = m (c.tc.loc main_arg7)) :
    (Cert.ReferenceIdeal.Value.res_main_v86 m' c : Vec Ideal S128x128 .f32) = G8 m c := by
  have key : ∀ r l : Fin 128, (Cert.ReferenceIdeal.Value.res_main_v86 m' c : Vec Ideal S128x128 .f32) (ix2 r l)
      = (G8 m c : Vec Ideal S128x128 .f32) (ix2 r l) := fun r l => by
    refine (Cert.ReferenceIdeal.Value.ref_apply m' c r l).trans ?_
    rw [h0, h1, h2, h3, h4, h5, h6, h7]
    exact (array_apply m c r l).symm
  funext i
  have hi : i = ix2 (i 0) (i 1) := by
    funext a
    match a with
    | ⟨0, _⟩ => rfl
    | ⟨1, _⟩ => rfl
  rw [hi]
  exact key (i 0) (i 1)

end Cert.KernelIdeal.Value

end
-- ==== Proof.Witness.lean ====
/-
  The specification with the cosine's denominator left open, and its value at one input: one row of `x` and one memory row
  are the first unit vector, all others zero, and the raw action is one. There the result tells two denominators apart.
-/
module

public import proofs.«01_k».proof.Proof.Math

@[expose] public section

noncomputable section

namespace Cert.Memory

open Idealize.ShloMosaic
open scoped BigOperators

/-! ## The specification over a denominator -/

/-- What a scalar product of two rows is divided by. -/
abbrev Denominator : Type := (Fin 128 → EReal) → (Fin 128 → EReal) → EReal
/-- The product of the norms, each with its 1e-8. -/
def denEach : Denominator := fun u v => norm u * norm v
/-- The product of the norms, with one 1e-8 added to it. -/
def denOnce : Denominator := fun u v => Ideal.sqrt (dot u u) * Ideal.sqrt (dot v v) + epsNorm
/-- The compound weight. -/
def compoundBy (D : Denominator) (X : Fin 32 → Fin 128 → EReal) (v : Fin 128 → EReal) : EReal :=
  ∑ s, keep thrSim (Ideal.div (dot (X s) v) (D (X s) v))
/-- The effective weight. -/
def effBy (D : Denominator) (X : Fin 32 → Fin 128 → EReal) (v : Fin 128 → EReal) : EReal := pick (compoundBy D X v) (dot v v)
/-- The total weight. -/
def totalBy (D : Denominator) (X : Fin 32 → Fin 128 → EReal) (M : Fin 100000 → Fin 128 → EReal) : EReal := ∑ k, effBy D X (M k)
/-- The correction. -/
def corrBy (D : Denominator) (X : Fin 32 → Fin 128 → EReal) (M : Fin 100000 → Fin 128 → EReal) (a : Fin 128 → EReal)
    (d : Fin 128) : EReal :=
  ∑ k, Ideal.div (dot a (M k)) (max (dot (M k) (M k)) epsSq) * effBy D X (M k) * M k d

/-- With the 1e-8 on each norm the total weight is the kernel's. -/
theorem totalBy_each (X : Fin 32 → Fin 128 → EReal) (M : Fin 100000 → Fin 128 → EReal) : totalBy denEach X M = total X M := rfl
/-- With the 1e-8 on each norm the correction is the kernel's. -/
theorem corrBy_each (X : Fin 32 → Fin 128 → EReal) (M : Fin 100000 → Fin 128 → EReal) (a : Fin 128 → EReal) (d : Fin 128) :
    corrBy denEach X M a d = corr X M a d := rfl

/-! ## The input -/

/-- The first unit vector. -/
def unit (d : Fin 128) : EReal := if d = 0 then 1 else 0
/-- `n` rows, the first of them the first unit vector, the others zero. -/
def oneUnit (n : ℕ) (k : Fin n) (d : Fin 128) : EReal := if k.val = 0 then unit d else 0

/-- The first row. -/
theorem oneUnit_first {n : ℕ} (k : Fin n) (h : k.val = 0) : oneUnit n k = unit := by
  funext d; unfold oneUnit; rw [if_pos h]
/-- Every other row is zero. -/
theorem oneUnit_other {n : ℕ} (k : Fin n) (h : k.val ≠ 0) : oneUnit n k = fun _ => 0 := by
  funext d; unfold oneUnit; rw [if_neg h]

/-- The scalar product with the unit vector is the first component. -/
theorem dot_unit (u : Fin 128 → EReal) : dot u unit = u 0 := by
  unfold dot
  rw [Finset.sum_eq_single 0 (fun d _ h => by unfold unit; rw [if_neg h, mul_zero]) (fun h => absurd (Finset.mem_univ _) h)]
  unfold unit
  rw [if_pos rfl, mul_one]

/-- The scalar product of a zero row is zero. -/
theorem zero_dot (v : Fin 128 → EReal) : dot (fun _ => 0) v = 0 := by
  unfold dot
  simp only [zero_mul, Finset.sum_const_zero]

/-- The unit vector's first component. -/
theorem unit_zero : unit 0 = 1 := if_pos rfl

/-- The unit vector's square sum. -/
theorem dot_unit_unit : dot unit unit = 1 := (dot_unit unit).trans unit_zero

/-- A quotient of zero is zero, by anything that is not zero. -/
theorem zero_div_pos {b : EReal} (h : 0 < b) : Ideal.div 0 b = 0 := by rw [div_pos_eq 0 h, zero_mul]

/-- A zero memory row has no weight. -/
theorem effBy_zero (D : Denominator) (X : Fin 32 → Fin 128 → EReal) : effBy D X (fun _ => 0) = 0 := by
  have h : ¬ thrSq < 0 := by
    obtain ⟨r, hr, e⟩ : ∃ r : ℝ, 0 < r ∧ thrSq = (r : EReal) := by
      refine ⟨_, ?_, by simp [thrSq, Ideal.ofBits, Ideal.ieee, -EReal.coe_mul]; rfl⟩; norm_num
    rw [e]; exact not_lt.mpr (EReal.coe_pos.mpr hr).le
  unfold effBy pick
  rw [zero_dot, if_neg (fun h' => h h'.2)]

/-- The 1e-8 is a real between 0 and 1. -/
theorem epsNorm_lt : ∃ r : ℝ, 0 < r ∧ r < 1 ∧ epsNorm = (r : EReal) := by
  refine ⟨_, ?_, ?_, by simp [epsNorm, Ideal.ofBits, Ideal.ieee, -EReal.coe_mul]; rfl⟩ <;> norm_num
/-- The threshold of a similarity is below one fifth. -/
theorem thrSim_lt : thrSim < ((1 / 5 : ℝ) : EReal) := by
  have h : ∃ r : ℝ, r < 1 / 5 ∧ thrSim = (r : EReal) := by
    refine ⟨_, ?_, by simp [thrSim, Ideal.ofBits, Ideal.ieee, -EReal.coe_mul]; rfl⟩; norm_num
  obtain ⟨r, hr, e⟩ := h
  rw [e]; exact EReal.coe_lt_coe_iff.mpr hr
/-- The threshold of a total is below one fifth. -/
theorem thrTot_lt : thrTot < ((1 / 5 : ℝ) : EReal) := by
  have h : ∃ r : ℝ, r < 1 / 5 ∧ thrTot = (r : EReal) := by
    refine ⟨_, ?_, by simp [thrTot, Ideal.ofBits, Ideal.ieee, -EReal.coe_mul]; rfl⟩; norm_num
  obtain ⟨r, hr, e⟩ := h
  rw [e]; exact EReal.coe_lt_coe_iff.mpr hr
/-- The threshold of a squared norm is below one. -/
theorem thrSq_lt : thrSq < 1 := by
  have h : ∃ r : ℝ, r < 1 ∧ thrSq = (r : EReal) := by
    refine ⟨_, ?_, by simp [thrSq, Ideal.ofBits, Ideal.ieee, -EReal.coe_mul]; rfl⟩; norm_num
  obtain ⟨r, hr, e⟩ := h
  rw [e]; exact_mod_cast hr
/-- The 1e-12 is below one. -/
theorem epsSq_le : epsSq ≤ 1 := by
  have h : ∃ r : ℝ, r < 1 ∧ epsSq = (r : EReal) := by
    refine ⟨_, ?_, by simp [epsSq, Ideal.ofBits, Ideal.ieee, -EReal.coe_mul]; rfl⟩; norm_num
  obtain ⟨r, hr, e⟩ := h
  rw [e]; exact_mod_cast hr.le
/-- The one half is a positive real. -/
theorem half_pos : ∃ r : ℝ, 0 < r ∧ half = (r : EReal) := by
  refine ⟨_, ?_, by simp [half, Ideal.ofBits, Ideal.ieee, -EReal.coe_mul]; rfl⟩; norm_num

/-- The unit memory row's weight is the unit row's cosine, if that is a real above one fifth. -/
theorem effBy_unit (D : Denominator) (hD : ∀ u v, 0 < D u v) (c : ℝ) (hc : 1 / 5 < c)
    (e : Ideal.div 1 (D unit unit) = (c : EReal)) : effBy D (oneUnit 32) unit = (c : EReal) := by
  have h5 : ((1 / 5 : ℝ) : EReal) < (c : EReal) := EReal.coe_lt_coe_iff.mpr hc
  have hk : compoundBy D (oneUnit 32) unit = (c : EReal) := by
    unfold compoundBy
    rw [Finset.sum_eq_single 0 (fun s _ h => ?_) (fun h => absurd (Finset.mem_univ _) h), oneUnit_first 0 rfl, dot_unit_unit, e]
    · unfold keep
      rw [if_pos (thrSim_lt.trans h5)]
    · rw [oneUnit_other s (fun h' => h (Fin.ext h')), zero_dot, zero_div_pos (hD _ _)]
      unfold keep
      exact ite_self 0
  unfold effBy pick
  rw [hk, dot_unit_unit, if_pos ⟨thrTot_lt.trans h5, thrSq_lt⟩]

/-- The total weight is that cosine. -/
theorem totalBy_unit (D : Denominator) (hD : ∀ u v, 0 < D u v) (c : ℝ) (hc : 1 / 5 < c)
    (e : Ideal.div 1 (D unit unit) = (c : EReal)) : totalBy D (oneUnit 32) (oneUnit 100000) = (c : EReal) := by
  unfold totalBy
  rw [Finset.sum_eq_single 0 (fun k _ h => ?_) (fun h => absurd (Finset.mem_univ _) h), oneUnit_first 0 rfl, effBy_unit D hD c hc e]
  rw [oneUnit_other k (fun h' => h (Fin.ext h')), effBy_zero]

/-- The correction's first component, of a raw action of ones, is that cosine too. -/
theorem corrBy_unit (D : Denominator) (hD : ∀ u v, 0 < D u v) (c : ℝ) (hc : 1 / 5 < c)
    (e : Ideal.div 1 (D unit unit) = (c : EReal)) : corrBy D (oneUnit 32) (oneUnit 100000) (fun _ => 1) 0 = (c : EReal) := by
  unfold corrBy
  rw [Finset.sum_eq_single 0 (fun k _ h => ?_) (fun h => absurd (Finset.mem_univ _) h), oneUnit_first 0 rfl, effBy_unit D hD c hc e,
    dot_unit, dot_unit_unit, unit_zero, max_eq_left epsSq_le, div_pos_eq 1 zero_lt_one, mul_one, one_mul, inv_one, one_mul]
  rw [oneUnit_other k (fun h' => h (Fin.ext h')), mul_zero]

/-- The result at this input, over the reals. -/
theorem result_real (c : ℝ) (hc : 1 / 5 < c) : ∃ p v : ℝ, 0 < p ∧ 0 < v ∧ half = (p : EReal) ∧ epsVar = (v : EReal) ∧
    result 1 (c : EReal) (c : EReal) = ((1 + p * c / (c + v) : ℝ) : EReal) := by
  obtain ⟨p, hp, ep⟩ := half_pos
  obtain ⟨v, hv, ev⟩ := epsVar_pos
  have h5 : ((1 / 5 : ℝ) : EReal) < (c : EReal) := EReal.coe_lt_coe_iff.mpr hc
  have hpos : 0 < c + v := by linarith
  refine ⟨p, v, hp, hv, ep, ev, ?_⟩
  unfold result
  rw [if_pos (thrTot_lt.trans h5), ep, ev, ← EReal.coe_add, ← EReal.coe_mul, div_pos_eq _ (EReal.coe_pos.mpr hpos), ← EReal.coe_inv,
    ← EReal.coe_mul, ← EReal.coe_one, ← EReal.coe_add, div_eq_mul_inv]

/-- The result takes different weights to different values. -/
theorem result_injective {a b : ℝ} (ha : 1 / 5 < a) (hb : 1 / 5 < b) (h : result 1 (a : EReal) (a : EReal) = result 1 (b : EReal) (b : EReal)) :
    a = b := by
  obtain ⟨p, v, hp, hv, ep, ev, ea⟩ := result_real a ha
  obtain ⟨p', v', -, -, ep', ev', eb⟩ := result_real b hb
  obtain rfl : p = p' := EReal.coe_injective (ep.symm.trans ep')
  obtain rfl : v = v' := EReal.coe_injective (ev.symm.trans ev')
  rw [ea, eb] at h
  have h' := EReal.coe_injective h
  have h1 : a + v ≠ 0 := by have : 0 < a + v := by linarith
                            exact this.ne'
  have h2 : b + v ≠ 0 := by have : 0 < b + v := by linarith
                            exact this.ne'
  have h3 : p * a / (a + v) = p * b / (b + v) := by linarith
  rw [div_eq_div_iff h1 h2] at h3
  have h4 : p * v * (a - b) = 0 := by linear_combination h3
  rcases mul_eq_zero.mp h4 with h5 | h5
  · exact absurd h5 (mul_pos hp hv).ne'
  · linarith

/-- Both denominators are positive. -/
theorem denEach_pos (u v : Fin 128 → EReal) : 0 < denEach u v := EReal.mul_pos (norm_pos u) (norm_pos v)
theorem denOnce_pos (u v : Fin 128 → EReal) : 0 < denOnce u v :=
  add_pos_real (EReal.mul_nonneg (sqrt_nonneg (dot_self_nonneg u)) (sqrt_nonneg (dot_self_nonneg v))) epsNorm_pos

/-- The root of one. -/
theorem sqrt_one : Ideal.sqrt 1 = 1 := by
  rw [← EReal.coe_one, Ideal.sqrt_coe, if_neg (by norm_num), Real.sqrt_one]

/-- At this input the two denominators give different results. -/
theorem results_differ :
    result 1 (totalBy denEach (oneUnit 32) (oneUnit 100000)) (corrBy denEach (oneUnit 32) (oneUnit 100000) (fun _ => 1) 0)
      ≠ result 1 (totalBy denOnce (oneUnit 32) (oneUnit 100000)) (corrBy denOnce (oneUnit 32) (oneUnit 100000) (fun _ => 1) 0) := by
  obtain ⟨r, hr, hr1, er⟩ := epsNorm_lt
  have hp : 0 < 1 + r := by linarith
  have e1 : Ideal.div 1 (denEach unit unit) = (((1 + r) * (1 + r))⁻¹ : ℝ) := by
    rw [div_pos_eq 1 (denEach_pos _ _), one_mul]
    unfold denEach norm
    rw [dot_unit_unit, sqrt_one, er, EReal.coe_inv, EReal.coe_mul, EReal.coe_add, EReal.coe_one]
  have e2 : Ideal.div 1 (denOnce unit unit) = ((1 + r)⁻¹ : ℝ) := by
    rw [div_pos_eq 1 (denOnce_pos _ _), one_mul]
    unfold denOnce
    rw [dot_unit_unit, sqrt_one, mul_one, er, EReal.coe_inv, EReal.coe_add, EReal.coe_one]
  have c1 : 1 / 5 < ((1 + r) * (1 + r))⁻¹ := by
    rw [one_div]; exact inv_strictAnti₀ (mul_pos hp hp) (by nlinarith)
  have c2 : 1 / 5 < (1 + r)⁻¹ := by
    rw [one_div]; exact inv_strictAnti₀ hp (by linarith)
  rw [totalBy_unit _ denEach_pos _ c1 e1, corrBy_unit _ denEach_pos _ c1 e1, totalBy_unit _ denOnce_pos _ c2 e2,
    corrBy_unit _ denOnce_pos _ c2 e2]
  intro h
  have h' := inv_injective (result_injective c1 c2 h)
  nlinarith

end Cert.Memory

end
-- ==== Proof.ExactValue.lean ====
/-
  The value of reference.py's own formula, at one index: the specification with one 1e-8 added to the product of the norms.
-/
module

public import proofs.«01_k».proof.Proof.Gen.ExactIdeal.Run
public import proofs.«01_k».proof.Proof.Witness

@[expose] public section

set_option maxHeartbeats 4000000
set_option maxRecDepth 16384

noncomputable section

namespace Cert.ExactIdeal.Value

open Cert.ExactIdeal Cert.ExactIdeal.Gen Idealize.ShloMosaic Idealize.ShloMosaic.TcCoe Idealize.SL.Sem
open Cert.Memory
open scoped BigOperators

/-- The scalar zero of the selections. -/
theorem zero_apply : (id (constant S_ .f32 0x00000000#32) : FVec Ideal S_ .f32) ix0 = (0 : EReal) := Ideal.ofBits_zero_f32

variable (m : (ℓ : Loc nD τ sig) → Buf (Elt Ideal) ℓ) (c : Dev nD)

/-- The rows of sequence `j` of `x`. -/
def seqRows (j : ℕ) (hj : j < 4) (s : Fin 32) (d : Fin 128) : EReal := m (c.tc.loc main_arg0) (ix3 ⟨j, hj⟩ s d)

/-- The raw action of row `r`. -/
def rawRow (r l : Fin 128) : EReal :=
  raw (fun d => m (c.tc.loc main_arg0) (ix3 ⟨r.val / 32, by omega⟩ ⟨r.val % 32, by omega⟩ d))
    (fun j d => m (c.tc.loc main_arg2) (ix2 j d)) (fun j => m (c.tc.loc main_arg3) (ix1 j))
    (fun j => m (c.tc.loc main_arg4) (ix1 j)) (fun j => m (c.tc.loc main_arg5) (ix1 j))
    (fun j d => m (c.tc.loc main_arg6) (ix2 j d)) (fun j => m (c.tc.loc main_arg7) (ix1 j)) l

/-- reference.py's result at row `r`, component `l`. -/
theorem exact_apply (r l : Fin 128) :
    (res_main_v84 m c : FVec Ideal S128x128 .f32) (ix2 r l)
      = result (rawRow m c r l)
          (totalBy denOnce (seqRows m c (r.val / 32) (by omega)) (fun k d => m (c.tc.loc main_arg1) (ix2 k d)))
          (corrBy denOnce (seqRows m c (r.val / 32) (by omega)) (fun k d => m (c.tc.loc main_arg1) (ix2 k d)) (rawRow m c r) l) := by
  unfold res_main_v84
  pointwise
  simp only [zero_apply, select_pick]
  rfl

end Cert.ExactIdeal.Value

end
-- ==== Proof.Differ.lean ====
/-
  The kernel does not compute reference.py's own formula over the extended reals: there is an input at which they differ.
-/
module

public import proofs.«01_k».proof.Proof.Equation
public import proofs.«01_k».proof.Proof.ExactValue

@[expose] public section

set_option maxRecDepth 16384

noncomputable section

namespace Cert.KernelIdeal.Value

open Cert.KernelIdeal Cert.KernelIdeal.Gen Idealize.ShloMosaic Idealize.ShloMosaic.TcCoe Idealize.SL.Sem
open Cert.Memory
open scoped BigOperators

/-- Without a second layer the raw action is its bias, whatever the first layer gives. -/
theorem raw_bias (x : Fin 128 → EReal) (W1 : Fin 128 → Fin 128 → EReal) (b1 g b : Fin 128 → EReal) (l : Fin 128) :
    raw x W1 b1 g b (fun _ _ => 0) (fun _ => 1) l = 1 := by
  unfold raw dot
  simp only [mul_zero, Finset.sum_const_zero, zero_add]

/-- The kernel's array and the array of reference.py's formula differ, wherever the rows of `x`'s first sequence and of the
    memory are the first unit vector and then zeros, the second layer's weights are zeros and its bias ones. -/
theorem differ (m : (ℓ : Loc nD τ sig) → Buf (Elt Ideal) ℓ)
    (m' : (ℓ : Loc Cert.ExactIdeal.nD Cert.ExactIdeal.τ Cert.ExactIdeal.sig) → Buf (Elt Ideal) ℓ) (c : Dev nD)
    (h0 : m' (c.tc.loc Cert.ExactIdeal.main_arg0) = m (c.tc.loc main_arg0))
    (h1 : m' (c.tc.loc Cert.ExactIdeal.main_arg1) = m (c.tc.loc main_arg1))
    (h6 : m' (c.tc.loc Cert.ExactIdeal.main_arg6) = m (c.tc.loc main_arg6))
    (h7 : m' (c.tc.loc Cert.ExactIdeal.main_arg7) = m (c.tc.loc main_arg7))
    (x : ∀ s d, seqRows m c 0 (by decide) s d = oneUnit 32 s d)
    (mem : ∀ k d, memRow m c k d = oneUnit 100000 k d)
    (w : ∀ j d : Fin 128, @Eq EReal (m (c.tc.loc main_arg6) (ix2 j d)) 0)
    (b : ∀ j : Fin 128, @Eq EReal (m (c.tc.loc main_arg7) (ix1 j)) 1) :
    (Cert.ExactIdeal.Value.res_main_v84 m' c : Vec Ideal S128x128 .f32) ≠ G8 m c := by
  intro h
  have hx : seqRows m c ((0 : Fin 128).val / 32) (by decide) = oneUnit 32 := funext fun s => funext fun d => x s d
  have hm : memRow m c = oneUnit 100000 := funext fun k => funext fun d => mem k d
  have hw : @Eq (Fin 128 → Fin 128 → EReal) (fun j d => m (c.tc.loc main_arg6) (ix2 j d)) (fun _ _ => 0) := funext fun j => funext fun d => w j d
  have hb : @Eq (Fin 128 → EReal) (fun j => m (c.tc.loc main_arg7) (ix1 j)) (fun _ => 1) := funext b
  have hr : rawRow m c 0 = fun _ => 1 := funext fun l => by
    unfold rawRow
    rw [hw, hb]
    exact raw_bias _ _ _ _ _ l
  have hr' : Cert.ExactIdeal.Value.rawRow m' c 0 = fun _ => 1 := funext fun l => by
    unfold Cert.ExactIdeal.Value.rawRow
    rw [h6, h7, hw, hb]
    exact raw_bias _ _ _ _ _ l
  have hx' : Cert.ExactIdeal.Value.seqRows m' c ((0 : Fin 128).val / 32) (by decide) = oneUnit 32 := by
    funext s d
    unfold Cert.ExactIdeal.Value.seqRows
    rw [h0]
    exact x s d
  have hm' : (fun (k : Fin 100000) (d : Fin 128) => (m' (c.tc.loc Cert.ExactIdeal.main_arg1) (ix2 k d) : EReal)) = oneUnit 100000 := by
    rw [h1]
    exact hm
  have e := array_apply m c 0 0
  have e' := Cert.ExactIdeal.Value.exact_apply m' c 0 0
  rw [hx, hm, hr, ← totalBy_each, ← corrBy_each] at e
  rw [hx', hm', hr'] at e'
  exact results_differ (e.symm.trans ((congrFun h (ix2 0 0)).symm.trans e'))

open Classical in
/-- A memory of the kernel that holds the four arrays, and anything elsewhere. -/
def inputs (x : Vec Ideal S4x32x128 .f32) (mem : Vec Ideal S100000x128 .f32) (w : Vec Ideal S128x128 .f32) (b : Vec Ideal S128 .f32) :
    (ℓ : Loc nD τ sig) → Buf (Elt Ideal) ℓ :=
  Function.update (Function.update (Function.update (Function.update (fun _ _ => default)
    ((0 : Dev nD).tc.loc main_arg0) x) ((0 : Dev nD).tc.loc main_arg1) mem) ((0 : Dev nD).tc.loc main_arg6) w)
    ((0 : Dev nD).tc.loc main_arg7) b

open Classical in
/-- A memory of reference.py's formula that holds the four arrays, and anything elsewhere. -/
def inputs' (x : Vec Ideal S4x32x128 .f32) (mem : Vec Ideal S100000x128 .f32) (w : Vec Ideal S128x128 .f32) (b : Vec Ideal S128 .f32) :
    (ℓ : Loc Cert.ExactIdeal.nD Cert.ExactIdeal.τ Cert.ExactIdeal.sig) → Buf (Elt Ideal) ℓ :=
  Function.update (Function.update (Function.update (Function.update (fun _ _ => default)
    ((0 : Dev nD).tc.loc Cert.ExactIdeal.main_arg0) x) ((0 : Dev nD).tc.loc Cert.ExactIdeal.main_arg1) mem)
    ((0 : Dev nD).tc.loc Cert.ExactIdeal.main_arg6) w) ((0 : Dev nD).tc.loc Cert.ExactIdeal.main_arg7) b

/-- So the kernel does not compute reference.py's own formula: some two memories agree on all eight arguments, and the array
    that the kernel ends with is not the one that the formula ends with. -/
theorem kernel_ne_exact :
    ∃ (m : (ℓ : Loc nD τ sig) → Buf (Elt Ideal) ℓ)
      (m' : (ℓ : Loc Cert.ExactIdeal.nD Cert.ExactIdeal.τ Cert.ExactIdeal.sig) → Buf (Elt Ideal) ℓ) (c : Dev nD),
      (m' (c.tc.loc Cert.ExactIdeal.main_arg0) = m (c.tc.loc main_arg0)
        ∧ m' (c.tc.loc Cert.ExactIdeal.main_arg1) = m (c.tc.loc main_arg1)
        ∧ m' (c.tc.loc Cert.ExactIdeal.main_arg2) = m (c.tc.loc main_arg2)
        ∧ m' (c.tc.loc Cert.ExactIdeal.main_arg3) = m (c.tc.loc main_arg3)
        ∧ m' (c.tc.loc Cert.ExactIdeal.main_arg4) = m (c.tc.loc main_arg4)
        ∧ m' (c.tc.loc Cert.ExactIdeal.main_arg5) = m (c.tc.loc main_arg5)
        ∧ m' (c.tc.loc Cert.ExactIdeal.main_arg6) = m (c.tc.loc main_arg6)
        ∧ m' (c.tc.loc Cert.ExactIdeal.main_arg7) = m (c.tc.loc main_arg7))
      ∧ (Cert.ExactIdeal.Value.res_main_v84 m' c : Vec Ideal S128x128 .f32) ≠ G8 m c := by
  let x : Vec Ideal S4x32x128 .f32 := fun i => oneUnit 32 (i 1) (i 2)
  let mem : Vec Ideal S100000x128 .f32 := fun i => oneUnit 100000 (i 0) (i 1)
  let w : Vec Ideal S128x128 .f32 := fun _ => (0 : EReal)
  let b : Vec Ideal S128 .f32 := fun _ => (1 : EReal)
  have a0 : inputs x mem w b ((0 : Dev nD).tc.loc main_arg0) = x := by
    unfold inputs
    rw [Function.update_of_ne (by decide), Function.update_of_ne (by decide), Function.update_of_ne (by decide), Function.update_self]
  have a1 : inputs x mem w b ((0 : Dev nD).tc.loc main_arg1) = mem := by
    unfold inputs
    rw [Function.update_of_ne (by decide), Function.update_of_ne (by decide), Function.update_self]
  have a6 : inputs x mem w b ((0 : Dev nD).tc.loc main_arg6) = w := by
    unfold inputs
    rw [Function.update_of_ne (by decide), Function.update_self]
  have a7 : inputs x mem w b ((0 : Dev nD).tc.loc main_arg7) = b := by
    unfold inputs
    rw [Function.update_self]
  have b0 : inputs' x mem w b ((0 : Dev nD).tc.loc Cert.ExactIdeal.main_arg0) = x := by
    unfold inputs'
    rw [Function.update_of_ne (by decide), Function.update_of_ne (by decide), Function.update_of_ne (by decide), Function.update_self]
  have b1 : inputs' x mem w b ((0 : Dev nD).tc.loc Cert.ExactIdeal.main_arg1) = mem := by
    unfold inputs'
    rw [Function.update_of_ne (by decide), Function.update_of_ne (by decide), Function.update_self]
  have b6 : inputs' x mem w b ((0 : Dev nD).tc.loc Cert.ExactIdeal.main_arg6) = w := by
    unfold inputs'
    rw [Function.update_of_ne (by decide), Function.update_self]
  have b7 : inputs' x mem w b ((0 : Dev nD).tc.loc Cert.ExactIdeal.main_arg7) = b := by
    unfold inputs'
    rw [Function.update_self]
  have rest : ∀ r, r ≠ (0 : Dev nD).tc.loc main_arg0 → r ≠ (0 : Dev nD).tc.loc main_arg1 → r ≠ (0 : Dev nD).tc.loc main_arg6 →
      r ≠ (0 : Dev nD).tc.loc main_arg7 → inputs x mem w b r = fun _ => default := fun r h0 h1 h6 h7 => by
    unfold inputs
    rw [Function.update_of_ne h7, Function.update_of_ne h6, Function.update_of_ne h1, Function.update_of_ne h0]
  have rest' : ∀ r, r ≠ (0 : Dev nD).tc.loc Cert.ExactIdeal.main_arg0 → r ≠ (0 : Dev nD).tc.loc Cert.ExactIdeal.main_arg1 →
      r ≠ (0 : Dev nD).tc.loc Cert.ExactIdeal.main_arg6 → r ≠ (0 : Dev nD).tc.loc Cert.ExactIdeal.main_arg7 →
      inputs' x mem w b r = fun _ => default := fun r h0 h1 h6 h7 => by
    unfold inputs'
    rw [Function.update_of_ne h7, Function.update_of_ne h6, Function.update_of_ne h1, Function.update_of_ne h0]
  refine ⟨inputs x mem w b, inputs' x mem w b, 0, ⟨b0.trans a0.symm, b1.trans a1.symm,
      (rest' ((0 : Dev nD).tc.loc Cert.ExactIdeal.main_arg2) (by decide) (by decide) (by decide) (by decide)).trans
        (rest ((0 : Dev nD).tc.loc main_arg2) (by decide) (by decide) (by decide) (by decide)).symm,
      (rest' ((0 : Dev nD).tc.loc Cert.ExactIdeal.main_arg3) (by decide) (by decide) (by decide) (by decide)).trans
        (rest ((0 : Dev nD).tc.loc main_arg3) (by decide) (by decide) (by decide) (by decide)).symm,
      (rest' ((0 : Dev nD).tc.loc Cert.ExactIdeal.main_arg4) (by decide) (by decide) (by decide) (by decide)).trans
        (rest ((0 : Dev nD).tc.loc main_arg4) (by decide) (by decide) (by decide) (by decide)).symm,
      (rest' ((0 : Dev nD).tc.loc Cert.ExactIdeal.main_arg5) (by decide) (by decide) (by decide) (by decide)).trans
        (rest ((0 : Dev nD).tc.loc main_arg5) (by decide) (by decide) (by decide) (by decide)).symm,
      b6.trans a6.symm, b7.trans a7.symm⟩,
    differ _ _ 0 (b0.trans a0.symm) (b1.trans a1.symm) (b6.trans a6.symm) (b7.trans a7.symm)
      (fun s d => congrFun a0 (ix3 ⟨0, by decide⟩ s d)) (fun k d => congrFun a1 (ix2 k d)) (fun j d => congrFun a6 (ix2 j d))
      (fun j => congrFun a7 (ix1 j))⟩

end Cert.KernelIdeal.Value

end
-- ==== Proof.lean ====
/-
  The claims: the frames of the kernel, its idealization, the reference and reference.py's own formula, the idealization kept, and the values equal over
  the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ExactIdeal
public import proofs.«01_k».proof.Proof.Gen.ExactIdeal.Run
public import proofs.«01_k».proof.Proof.Equation
public import proofs.«01_k».proof.Proof.Differ
public import Idealize.ShloMosaic.Adequacy
public import Idealize.ShloMosaic.Init

@[expose] public section

noncomputable section

namespace Cert.Proof

open Idealize.ShloMosaic Idealize.ShloMosaic.TcCoe Idealize.SL.Sem

/-- The reference runs, leaves its arguments as they were, and ends with every counter at zero: it has none. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does reference.py's own formula. -/
theorem frame_exact : Cert.quiescent_ExactIdeal (hExactIdeal := Cert.ExactIdeal.Gen.facts) := fun m ρ _ =>
  (θ_run Cert.ExactIdeal.defs _ _).mono (fun r h => ⟨fun c => (h c).2, sem_eq_zero_of_no_sems (by decide) r.2⟩)
    (Cert.ExactIdeal.Value.run (F := Ideal) m ρ)

/-- The kernel and the reference end with equal results over the extended reals. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.Value.G8 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  exact Cert.KernelIdeal.Value.equal m m' c h0 h1 h2 h3 h4 h5 h6 h7

/-- All the claims. -/
theorem claim : Cert.Claim := ⟨Cert.Kernel.Gen.facts, Cert.KernelIdeal.Gen.facts, Cert.ReferenceIdeal.Gen.facts, Cert.ExactIdeal.Gen.facts,
  fun m ρ _ => Cert.Kernel.Gen.frame m ρ, fun m ρ _ => Cert.KernelIdeal.Gen.frame m ρ, frame_reference, frame_exact, trivial, algebraic⟩

end Cert.Proof

end
